-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S64x2x512 Cert.KernelIdeal.S64x1x512
  ∧ IdealRules.bf16_pair.Statement Cert.KernelIdeal.S56x512 Cert.KernelIdeal.S28x512
  ∧ IdealRules.bf16_pair.Statement Cert.KernelIdeal.S28x2x512 Cert.KernelIdeal.S28x1x512
  ∧ IdealRules.bf16_pair.Statement Cert.KernelIdeal.S1x2x256 Cert.KernelIdeal.S1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x7168 : Shape := ⟨3, ![1, 128, 7168]⟩
abbrev S2x224x32x32 : Shape := ⟨4, ![2, 224, 32, 32]⟩
abbrev S3584x18432 : Shape := ⟨2, ![3584, 18432]⟩
abbrev S56x18432 : Shape := ⟨2, ![56, 18432]⟩
abbrev S18432 : Shape := ⟨1, ![18432]⟩
abbrev S128x7168 : Shape := ⟨2, ![128, 7168]⟩
abbrev S2x7168x32 : Shape := ⟨3, ![2, 7168, 32]⟩
abbrev S1x18432 : Shape := ⟨2, ![1, 18432]⟩
abbrev S128x18432 : Shape := ⟨2, ![128, 18432]⟩
abbrev S3584x512 : Shape := ⟨2, ![3584, 512]⟩
abbrev S56x512 : Shape := ⟨2, ![56, 512]⟩
abbrev S1x512 : Shape := ⟨2, ![1, 512]⟩
abbrev S128x512 : Shape := ⟨2, ![128, 512]⟩
abbrev S64x512 : Shape := ⟨2, ![64, 512]⟩
abbrev S256x128 : Shape := ⟨2, ![256, 128]⟩
abbrev S128x128 : Shape := ⟨2, ![128, 128]⟩
abbrev S1x256x32 : Shape := ⟨3, ![1, 256, 32]⟩
abbrev S256x32 : Shape := ⟨2, ![256, 32]⟩
abbrev S256x128x1 : Shape := ⟨3, ![256, 128, 1]⟩
abbrev S128x256 : Shape := ⟨2, ![128, 256]⟩
abbrev S256x256 : Shape := ⟨2, ![256, 256]⟩
abbrev S28x512 : Shape := ⟨2, ![28, 512]⟩
abbrev S1x256 : Shape := ⟨2, ![1, 256]⟩
abbrev S8x256 : Shape := ⟨2, ![8, 256]⟩
abbrev S16x256 : Shape := ⟨2, ![16, 256]⟩
abbrev S64x256 : Shape := ⟨2, ![64, 256]⟩
abbrev S64x1x256 : Shape := ⟨3, ![64, 1, 256]⟩
abbrev S64x2x256 : Shape := ⟨3, ![64, 2, 256]⟩
abbrev S8x16x256 : Shape := ⟨3, ![8, 16, 256]⟩
abbrev S1x16x256 : Shape := ⟨3, ![1, 16, 256]⟩

abbrev nBuf : Space → Nat
  | .hbm => 11
  | .vmem => 16
  | .smem => 0
  | _ => 0

abbrev bufTy : (tb : Table) → Fin (tcTables nBuf tb) → BufTy
  | .hbm, ⟨0, _⟩ => ⟨S1x128x7168, .bf16⟩
  | .hbm, ⟨1, _⟩ => ⟨S2x224x32x32, .bf16⟩
  | .hbm, ⟨2, _⟩ => ⟨S3584x18432, .i8⟩
  | .hbm, ⟨3, _⟩ => ⟨S56x18432, .bf16⟩
  | .hbm, ⟨4, _⟩ => ⟨S56x18432, .bf16⟩
  | .hbm, ⟨5, _⟩ => ⟨S18432, .f32⟩
  | .hbm, ⟨6, _⟩ => ⟨S128x7168, .bf16⟩
  | .hbm, ⟨7, _⟩ => ⟨S2x7168x32, .bf16⟩
  | .hbm, ⟨8, _⟩ => ⟨S1x18432, .f32⟩
  | .hbm, ⟨9, _⟩ => ⟨S128x18432, .bf16⟩
  | .hbm, ⟨10, _⟩ => ⟨S128x7168, .bf16⟩
  | .local _ .vmem, ⟨0, _⟩ => ⟨S128x7168, .bf16⟩
  | .local _ .vmem, ⟨1, _⟩ => ⟨S2x7168x32, .bf16⟩
  | .local _ .vmem, ⟨2, _⟩ => ⟨S3584x512, .i8⟩
  | .local _ .vmem, ⟨3, _⟩ => ⟨S3584x512, .i8⟩
  | .local _ .vmem, ⟨4, _⟩ => ⟨S56x512, .bf16⟩
  | .local _ .vmem, ⟨5, _⟩ => ⟨S56x512, .bf16⟩
  | .local _ .vmem, ⟨6, _⟩ => ⟨S56x512, .bf16⟩
  | .local _ .vmem, ⟨7, _⟩ => ⟨S56x512, .bf16⟩
  | .local _ .vmem, ⟨8, _⟩ => ⟨S1x512, .f32⟩
  | .local _ .vmem, ⟨9, _⟩ => ⟨S1x512, .f32⟩
  | .local _ .vmem, ⟨10, _⟩ => ⟨S128x512, .bf16⟩
  | .local _ .vmem, ⟨11, _⟩ => ⟨S128x512, .bf16⟩
  | .local _ .vmem, ⟨12, _⟩ => ⟨S128x7168, .bf16⟩
  | .local _ .vmem, ⟨13, _⟩ => ⟨S128x7168, .bf16⟩
  | .local _ .vmem, ⟨14, _⟩ => ⟨S64x512, .i32⟩
  | .local _ .vmem, ⟨15, _⟩ => ⟨S64x512, .i32⟩
  | _, _ => ⟨S1x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [BitOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x7168x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
abbrev S64x2x512 : Shape := ⟨3, ![64, 2, 512]⟩
abbrev S64x1x512 : Shape := ⟨3, ![64, 1, 512]⟩
abbrev S28x2x512 : Shape := ⟨3, ![28, 2, 512]⟩
abbrev S28x1x512 : Shape := ⟨3, ![28, 1, 512]⟩
abbrev S1x2x256 : Shape := ⟨3, ![1, 2, 256]⟩
abbrev S1x1x256 : Shape := ⟨3, ![1, 1, 256]⟩
  | .local _ .vmem, ⟨14, _⟩ => ⟨S64x2x512, .bf16⟩
  | .local _ .vmem, ⟨15, _⟩ => ⟨S64x2x512, .bf16⟩
variable {F : FTy → Type} [FloatOps F]
-- ==== ReferenceIdeal.lean ====
abbrev S1x128x7168 : Shape := ⟨3, ![1, 128, 7168]⟩
abbrev S2x224x32x32 : Shape := ⟨4, ![2, 224, 32, 32]⟩
abbrev S3584x18432 : Shape := ⟨2, ![3584, 18432]⟩
abbrev S56x18432 : Shape := ⟨2, ![56, 18432]⟩
abbrev S18432 : Shape := ⟨1, ![18432]⟩
abbrev S1x128x224x32x1 : Shape := ⟨5, ![1, 128, 224, 32, 1]⟩
abbrev S1x224x32x32 : Shape := ⟨4, ![1, 224, 32, 32]⟩
abbrev S224x32x32 : Shape := ⟨3, ![224, 32, 32]⟩
abbrev S224x1x32x32 : Shape := ⟨4, ![224, 1, 32, 32]⟩
abbrev S224x1x32x1x128 : Shape := ⟨5, ![224, 1, 32, 1, 128]⟩
abbrev S1x128x112x32x2 : Shape := ⟨5, ![1, 128, 112, 32, 2]⟩
abbrev S112x2x32x32 : Shape := ⟨4, ![112, 2, 32, 32]⟩
abbrev S112x2x32x1x128 : Shape := ⟨5, ![112, 2, 32, 1, 128]⟩
abbrev S56x64x18432 : Shape := ⟨3, ![56, 64, 18432]⟩
abbrev S_ : Shape := ⟨0, ![]⟩
abbrev S1x128x3584 : Shape := ⟨3, ![1, 128, 3584]⟩
abbrev S1x128x18432 : Shape := ⟨3, ![1, 128, 18432]⟩
abbrev S1x1x18432 : Shape := ⟨3, ![1, 1, 18432]⟩
abbrev S128x18432 : Shape := ⟨2, ![128, 18432]⟩
abbrev S128x7168 : Shape := ⟨2, ![128, 7168]⟩

abbrev nBuf : Space → Nat
  | .hbm => 50
  | .vmem => 0
  | .smem => 0
  | _ => 0

abbrev bufTy : (tb : Table) → Fin (tcTables nBuf tb) → BufTy
  | .hbm, ⟨0, _⟩ => ⟨S1x128x7168, .bf16⟩
  | .hbm, ⟨1, _⟩ => ⟨S2x224x32x32, .bf16⟩
  | .hbm, ⟨2, _⟩ => ⟨S3584x18432, .i8⟩
  | .hbm, ⟨3, _⟩ => ⟨S56x18432, .bf16⟩
  | .hbm, ⟨4, _⟩ => ⟨S56x18432, .bf16⟩
  | .hbm, ⟨5, _⟩ => ⟨S18432, .f32⟩
  | .hbm, ⟨6, _⟩ => ⟨S1x128x224x32x1, .bf16⟩
  | .hbm, ⟨7, _⟩ => ⟨S1x224x32x32, .bf16⟩
  | .hbm, ⟨8, _⟩ => ⟨S224x32x32, .bf16⟩
  | .hbm, ⟨9, _⟩ => ⟨S224x1x32x32, .bf16⟩
  | .hbm, ⟨10, _⟩ => ⟨S224x1x32x1x128, .f32⟩
  | .hbm, ⟨11, _⟩ => ⟨S1x128x224x32x1, .f32⟩
  | .hbm, ⟨12, _⟩ => ⟨S1x128x7168, .f32⟩
  | .hbm, ⟨13, _⟩ => ⟨S1x128x7168, .bf16⟩
  | .hbm, ⟨14, _⟩ => ⟨S1x128x112x32x2, .bf16⟩
  | .hbm, ⟨15, _⟩ => ⟨S1x224x32x32, .bf16⟩
  | .hbm, ⟨16, _⟩ => ⟨S224x32x32, .bf16⟩
  | .hbm, ⟨17, _⟩ => ⟨S112x2x32x32, .bf16⟩
  | .hbm, ⟨18, _⟩ => ⟨S112x2x32x1x128, .f32⟩
  | .hbm, ⟨19, _⟩ => ⟨S1x128x112x32x2, .f32⟩
  | .hbm, ⟨20, _⟩ => ⟨S1x128x7168, .f32⟩
  | .hbm, ⟨21, _⟩ => ⟨S1x128x7168, .bf16⟩
  | .hbm, ⟨22, _⟩ => ⟨S56x64x18432, .bf16⟩
  | .hbm, ⟨23, _⟩ => ⟨S3584x18432, .bf16⟩
  | .hbm, ⟨24, _⟩ => ⟨S56x64x18432, .bf16⟩
  | .hbm, ⟨25, _⟩ => ⟨S3584x18432, .bf16⟩
  | .hbm, ⟨26, _⟩ => ⟨S3584x18432, .i32⟩
  | .hbm, ⟨27, _⟩ => ⟨S_, .i32⟩
  | .hbm, ⟨28, _⟩ => ⟨S3584x18432, .i32⟩
  | .hbm, ⟨29, _⟩ => ⟨S3584x18432, .i32⟩
  | .hbm, ⟨30, _⟩ => ⟨S3584x18432, .bf16⟩
  | .hbm, ⟨31, _⟩ => ⟨S3584x18432, .bf16⟩
  | .hbm, ⟨32, _⟩ => ⟨S3584x18432, .bf16⟩
  | .hbm, ⟨33, _⟩ => ⟨S_, .i32⟩
  | .hbm, ⟨34, _⟩ => ⟨S3584x18432, .i32⟩
  | .hbm, ⟨35, _⟩ => ⟨S3584x18432, .i32⟩
  | .hbm, ⟨36, _⟩ => ⟨S3584x18432, .bf16⟩
  | .hbm, ⟨37, _⟩ => ⟨S3584x18432, .bf16⟩
  | .hbm, ⟨38, _⟩ => ⟨S3584x18432, .bf16⟩
  | .hbm, ⟨39, _⟩ => ⟨S1x128x3584, .bf16⟩
  | .hbm, ⟨40, _⟩ => ⟨S1x128x18432, .f32⟩
  | .hbm, ⟨41, _⟩ => ⟨S1x128x3584, .bf16⟩
  | .hbm, ⟨42, _⟩ => ⟨S1x128x18432, .f32⟩
  | .hbm, ⟨43, _⟩ => ⟨S1x128x18432, .f32⟩
  | .hbm, ⟨44, _⟩ => ⟨S1x1x18432, .f32⟩
  | .hbm, ⟨45, _⟩ => ⟨S1x128x18432, .f32⟩
  | .hbm, ⟨46, _⟩ => ⟨S1x128x18432, .f32⟩
  | .hbm, ⟨47, _⟩ => ⟨S1x128x18432, .bf16⟩
  | .hbm, ⟨48, _⟩ => ⟨S128x18432, .bf16⟩
  | .hbm, ⟨49, _⟩ => ⟨S128x7168, .bf16⟩
  | _, _ => ⟨S1x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Proof.Kernel.Runs.lean ====
/- What the runs of the kernel's body share: the branch condition in closed form over the grid, where the windows are
   idle, and the staging and scratch memrefs. Adapted from the generated frame modules. -/
module

public import proofs.«01_k».proof.Proof.Gen.Kernel.Frame
public import proofs.«01_k».proof.Proof.Gen.Kernel.Skeleton
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x7168 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x7168 .bf16 := Memref.whole cc0_scratch0
abbrev scM0_1 : Memref sig .tc .vmem S64x512 .i32 := Memref.whole cc0_scratch1
abbrev scM0_2 : Memref sig .tc .vmem S64x512 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.Kernel.RunA.lean ====
/- The whole-body run of the kernel at the first grid point (case A). Adapted from the generated
   frame modules. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3508000 in
/-- The body's triple IN CASE A (`scf.if` 0 taken: points 0): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x512 .i32) (harg10 : arg10.IsWhole) (arg11 : Memref sig .tc .vmem S64x512 .i32) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part112_eq_skeleton, k0_part43_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.Kernel.RunB.lean ====
/- The whole-body run of the kernel at every later grid point (case B). Adapted from the generated
   frame modules. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2240000 in
/-- The body's triple IN CASE B (`scf.if` 0 not taken: points 1, 2, … 35: 35 of 36): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x512 .i32) (harg10 : arg10.IsWhole) (arg11 : Memref sig .tc .vmem S64x512 .i32) (harg11 : arg11.IsWhole) (hc0 : ¬cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
    intro E K
    simp only [cc0__kernel_eq_skeleton]; unfold cc0__kernel_skel
    simp only [k0_part112_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.Kernel.Frame.lean ====
/- The frame certificate of the kernel: the proof data, the body obligation, the run and the frame claim.
   Adapted from the generated frame modules. -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 36 := lt_of_lt_of_eq t.isLt (show cfg0.N = 36 from N_0)
  by_cases h0 : t.val % 36 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((((dats m 0 c).toRForget_arrAt_iff (w := 2) rfl _ _).mp ((h c).1 2)).trans (((dats m 0 c).arrAt_in 2 rfl _).trans ((A_eq m c 2).trans (V_main_arg2 m c)))),
      ((((dats m 0 c).toRForget_arrAt_iff (w := 3) rfl _ _).mp ((h c).1 3)).trans (((dats m 0 c).arrAt_in 3 rfl _).trans ((A_eq m c 3).trans (V_main_arg3 m c)))),
      ((((dats m 0 c).toRForget_arrAt_iff (w := 4) rfl _ _).mp ((h c).1 4)).trans (((dats m 0 c).arrAt_in 4 rfl _).trans ((A_eq m c 4).trans (V_main_arg4 m c)))),
      ((h c).2 main_arg5 (Pipeline.mem_restRefs_of main_arg5 (by decide) (by decide))).trans (V_main_arg5 m c)⟩) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Ideal.Runs.lean ====
/- What the runs of the idealized kernel's body share: the branch condition in closed form over the grid, where the windows are
   idle, and the staging and scratch memrefs. Adapted from the generated frame modules. -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 7 live: the case stores into it. -/
theorem liveAt0_7_A : ∀ t : Fin cfg0.N, cond0_0 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cfg0.idle 7 (grid0.coords t) = true := by decide +kernel
/-! ## The kernel body on any staging memrefs: a subtype the run finds -/

/-- One staging buffer of output window 6, through which its contents are stated (`View.read_writes_of_cover`: the
    choice does not matter). -/
abbrev VO0_6 : View sig .tc .vmem S128x512 .bf16 := (Memref.whole cc0_stg6_0 : Memref sig .tc .vmem S128x512 .bf16).view
/-- One staging buffer of output window 7, through which its contents are stated (`View.read_writes_of_cover`: the
    choice does not matter). -/
abbrev VO0_7 : View sig .tc .vmem S128x7168 .bf16 := (Memref.whole cc0_stg7_0 : Memref sig .tc .vmem S128x7168 .bf16).view
/-- Each window's current staging memref at point `t`, spelled as the pipeline passes it (`bodyAt0`), and its wholeness. -/
abbrev ms0_0 (t : Fin cfg0.N) : Memref sig .tc .vmem S128x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x7168x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x7168 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x7168 .bf16 := Memref.whole cc0_scratch0
abbrev scM0_1 : Memref sig .tc .vmem S64x2x512 .bf16 := Memref.whole cc0_scratch1
abbrev scM0_2 : Memref sig .tc .vmem S64x2x512 .bf16 := Memref.whole cc0_scratch2
/-- The scratch `arg9` the kernel carries between points, as a view: what it holds is stated through it. -/
abbrev VS0_0 : View sig .tc .vmem S128x7168 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Ideal.RunA.lean ====
/- The whole-body run of the idealized kernel at the first grid point (case A). Adapted from the generated
   frame modules. -/
module

public import proofs.«01_k».proof.Proof.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3732000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) :
    Σ' (L6 : List (View.Piece (Elt F) S128x512 .bf16)), Σ' (L7 : List (View.Piece (Elt F) S128x7168 .bf16)), Σ' (LS0 : List (View.Piece (Elt F) S128x7168 .bf16)), Σ' (LT1 : List (View.Piece (Elt F) S64x2x512 .bf16)), { LT2 : List (View.Piece (Elt F) S64x2x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__kernel_eq_skeleton]; unfold cc0__kernel_skel
    simp only [k0_part124_eq_skeleton, k0_part43_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Gen

end
-- ==== Proof.Ideal.RunB.lean ====
/- The whole-body run of the idealized kernel at every later grid point (case B). Adapted from the generated
   frame modules. -/
module

public import proofs.«01_k».proof.Proof.Ideal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2464000 in
/-- What the body's stores leave in each output's staging memref, as pieces (last first) IN CASE B (`scf.if` 0 not taken: points 1, 2, … 35: 35 of 36), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : ¬cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (xs0 : Vec F S128x7168 .bf16) :
    Σ' (L6 : List (View.Piece (Elt F) S128x512 .bf16)), Σ' (L7 : List (View.Piece (Elt F) S128x7168 .bf16)), Σ' (LS0 : List (View.Piece (Elt F) S128x7168 .bf16)), Σ' (LT1 : List (View.Piece (Elt F) S64x2x512 .bf16)), { LT2 : List (View.Piece (Elt F) S64x2x512 .bf16) //
      ∀ (xi7 : Vec F S128x7168 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xs0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xs0 ∗ (∃ f, arg10.view.loc (c : Thread nD τ) ↦[arg10.view.set]{fullShare} arg10.view.writes (Elt F) f LT1) ∗ (∃ f, arg11.view.loc (c : Thread nD τ) ↦[arg11.view.set]{fullShare} arg11.view.writes (Elt F) f LT2)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 E K => ?run⟩
  case run =>
    simp only [cc0__kernel_eq_skeleton]; unfold cc0__kernel_skel
    simp only [k0_part124_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [HS0]
    · iexists _; isplitr; · ipureintro; exact harg9.read_unread _
      iexact HS0
    isplitl [HS1]; · iexists _; iexact HS1
    iexists _; iexact HS2

end Cert.KernelIdeal.Gen

end
-- ==== Proof.Ideal.Frame.lean ====
/- The frame certificate of the idealized kernel: the proof data, the body obligation, the run and the frame claim.
   Adapted from the generated frame modules. -/
module

public import proofs.«01_k».proof.Proof.Ideal.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S128x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5).1 S128x256.size (by sl_kernel_rfl) y

/-- What case A leaves in output 6's staging buffer: its pieces read back over junk. -/
def out0_A_6 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) : Vec F S128x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 x0 x1 x2 x3 x4 x5).1)

/-- Case A's pieces for output 7 tile its block (28 stores of `S128x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (y : S128x7168.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 S128x256.size (by sl_kernel_rfl) y

/-- What case A leaves in output 7's staging buffer: its pieces read back over junk. -/
def out0_A_7 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) : Vec F S128x7168 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 x0 x1 x2 x3 x4 x5).2.1)

/-- Case A's pieces for scratch `arg9`, which the kernel carries between points, cover it: 28 pieces of `S128x256` tiling it (Lib/Ring.lean `Piece.tiledL`). -/
theorem scover0_A_0 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (y : S128x7168.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 S128x256.size (by sl_kernel_rfl) y

/-- What case A leaves in scratch `arg9`: its pieces read back over junk. -/
def sout0_A_0 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) : Vec F S128x7168 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1)

/-- Case B's pieces for output 6 tile its block (2 stores of `S128x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : ¬cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (xs0 : Vec F S128x7168 .bf16) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1 S128x256.size (by sl_kernel_rfl) y

/-- What case B leaves in output 6's staging buffer: its pieces read back over junk. -/
def out0_B_6 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : ¬cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (xs0 : Vec F S128x7168 .bf16) : Vec F S128x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1)

/-- Case B stores nothing into scratch `arg9`: it holds what the point before left. -/
def sout0_B_0 (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole) (hc0 : ¬cond0_0 i)
    (x0 : Vec F S128x7168 .bf16) (x1 : Vec F S2x7168x32 .bf16) (x2 : Vec F S3584x512 .i8) (x3 : Vec F S56x512 .bf16) (x4 : Vec F S56x512 .bf16) (x5 : Vec F S1x512 .f32) (xs0 : Vec F S128x7168 .bf16) : Vec F S128x7168 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .bf16 × Vec F S128x7168 .bf16 × Vec F S128x7168 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 36 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 36 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 36 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, (outsAt0 m c (t.val - 1) (by have := t.isLt; omega)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Before every point but the first, output 7's staging buffer holds what the first point stored into it: no later point
    stores into it and it is written back only after the last. -/
theorem before0_7 (c : Dev nD) : ∀ (n : ℕ) (hn : n + 1 < cfg0.N) (d),
    (dats m 0 c).before 7 ⟨n + 1, hn⟩ d = (outsAt0 m c (n + 1) hn).2.1 := by
  have hN : cfg0.N = 36 := N_0
  have hcarry : ∀ (t : Fin cfg0.N), t.val ≠ 0 →
      (outsAt0 m c t.val t.isLt).2.1 = (outsAt0 m c (t.val - 1) (by have := t.isLt; omega)).2.1 := fun t ht => by
    rw [outsAt0_B m c t (by have := t.isLt; omega)]
  have hfr : ∀ n, n + 1 < cfg0.N → cfg0.fresh 7 (n + 1) = false := by
    intro n
    induction n with
    | zero =>
      intro h
      rw [cfg0.fresh_succ 7 0 (by omega)]
      have h1 : (cfg0.win 7).flush ⟨0, Nat.lt_of_succ_lt h⟩ = false := by
        rw [Bool.eq_false_iff]; intro hf; have := (flush0_7 _).mp hf; simp at this
      rw [h1, liveAt0_7_A _ ((hcond0_0 _).mpr (Nat.zero_mod _))]; rfl
    | succ n ih =>
      intro h
      rw [cfg0.fresh_succ 7 (n + 1) (by omega), ih (by omega), Bool.and_false, Bool.or_false]
      rw [Bool.eq_false_iff]; intro hf; have := (flush0_7 _).mp hf
      dsimp only at this; omega
  intro n hn d
  rw [(dats m 0 c).before_out_traj 7 rfl (fun _ _ => rfl) (fun t ht _ _ => by
    rw [after0_7, after0_7]; exact hcarry t ht) (n + 1) ⟨n + 1, hn⟩ rfl d]
  rw [hfr n hn, if_neg Bool.false_ne_true, after0_7]
  exact (hcarry ⟨n + 1, hn⟩ (Nat.succ_ne_zero n)).symm

/-- At a point of case B, output 7's buffer as the body found it is what the point owes: written back after the last point, it
    must hold the stated contents, which it does. -/
theorem leaves0_7_B (c : Dev nD) (t : Fin cfg0.N) (h0 : ¬t.val % 36 = 0) (d) :
    (owns (c : Thread nD τ) (ms0_7 t) fullShare ((dats m 0 c).before 7 t d) : sProp 𝕄) ⊢ (dats m 0 c).leavesExact 7 t := by
  have hi := idleAt0_7_B t (fun h => h0 ((hcond0_0 t).mp h))
  cases hf : (cfg0.win 7).flush t
  · rw [Dat.leavesExact_idle (dats m 0 c) 7 t hi hf]
    iintro H; iexists _; iexact H
  · obtain ⟨n, hn⟩ := t
    cases n with
    | zero => exact absurd (Nat.zero_mod _) h0
    | succ n =>
      rw [before0_7 m c n hn d]
      rw [show (dats m 0 c).leavesExact 7 ⟨n + 1, hn⟩ = owns (c : Thread nD τ) (ms0_7 ⟨n + 1, hn⟩) fullShare ((dats m 0 c).after 7 ⟨n + 1, hn⟩) from by
        unfold Dat.leavesExact; rw [hi, hf], after0_7]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 36 := lt_of_lt_of_eq t.isLt (show cfg0.N = 36 from N_0)
  by_cases h0 : t.val % 36 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7_A t ((hcond0_0 t).mpr h0)], after0_7]
    by_cases hz : t.val = 0
    · rw [PhiS_castSucc m c t, PhiS_zero m c _ _ hz, PhiA0_eq]
      rw [outsAt0_A m c t h0]
      unfold out0_A_6 out0_A_7 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, H5, ⟨%e6, H6⟩, ⟨%e7, H7⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _)
    · exfalso; have hN : t.val < 36 := lt_of_lt_of_eq t.isLt (show cfg0.N = 36 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    by_cases hz : t.val = 0
    · exfalso; have hN : t.val < 36 := lt_of_lt_of_eq t.isLt (show cfg0.N = 36 from N_0); omega
    · rw [PhiS_castSucc m c t, PhiS_pos m c _ _ hz]
      rw [outsAt0_B m c t h0]
      unfold out0_B_6 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      isplitl [HS2]; · iexact HS2
      iintro ⟨H0, H1, H2, H3, H4, H5, ⟨%e6, H6⟩, H7, HS0, ⟨%fT1, HS1⟩, ⟨%fT2, HS2⟩⟩
      isplitl [HS0 HS1 HS2 Hg]
      · isplitl [HS0 HS1 HS2]
        · isplitl [HS0]
          · iexact HS0
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      iapply (leaves0_7_B m c t h0 d7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Ideal.Value.lean ====
/- What the idealized kernel leaves in its output arrays. Adapted from a generated value module. -/
module

public import proofs.«01_k».proof.Proof.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- The index map sends distinct grid points to distinct block indices (decided over the 36 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S128x18432.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- An index that no flushing point's block covers keeps output window 7's array contents at region entry. -/
theorem entry7 (c : Dev nD) (i : S128x7168.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

/-- The contents after a point depend on its number only. -/
theorem outs_congr (c : Dev nD) : ∀ (j : ℕ) (h : j < cfg0.N) (j' : ℕ) (h' : j' < cfg0.N), j = j' →
    outsAt0 m c j h = outsAt0 m c j' h' := by
  intro j h j' h' hj; subst hj; rfl

/-! ## Output window 6 -/

/-- The block of the array that holds index `i`, numbered in the order the points write the blocks back (one per point),
    `i`'s place in it, and the point that writes it back. -/
abbrev run6Of (i : S128x18432.Idx) : ℕ := 36 * ((i 0).val / 128 - 0) + 1 * ((i 1).val / 512 - 0)
set_option backward.proofsInPublic true in
abbrev loc6Of (i : S128x18432.Idx) : S128x512.Idx := fun a => match a with
  | ⟨0, _⟩ => ⟨(i 0).val % 128, Nat.mod_lt _ (by decide)⟩
  | ⟨1, _⟩ => ⟨(i 1).val % 512, Nat.mod_lt _ (by decide)⟩
abbrev pt6Of (i : S128x18432.Idx) : ℕ := run6Of i

/-- WHAT THE ARRAY ENDS HOLDING at index `i` inside the box the flushing blocks fill: output 6's buffer after the point that writes `i`'s block back, at `i`'s place in the block. `G6` states the array's contents
    only inside the box. -/
def G6 (c : Dev nD) : Buf (Elt F) ((c : Thread nD τ).loc main_v3_0) := fun i =>
  if h : pt6Of i < cfg0.N then
    (outsAt0 m c (pt6Of i) h).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 35
    ∧ 36 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 1) (q1 : Fin 36) : Fin grid0.N :=
  ⟨36 * q0.val + 1 * q1.val, lt_of_lt_of_eq (by omega) N_0.symm⟩
theorem idx_onto6 : ∀ (q0 : Fin 1) (q1 : Fin 36), ∃ t : Fin cfg0.N, (cfg0.win 6).flush t = true ∧ win0_6.index t = ![q0.val + 0, q1.val + 0] :=
  fun q0 q1 => ⟨onto6Pt q0 q1, (by decide +kernel : ∀ (q0 : Fin 1) (q1 : Fin 36), win0_6.flush (onto6Pt q0 q1) = true ∧ win0_6.index (onto6Pt q0 q1) = ![q0.val + 0, q1.val + 0]) q0 q1⟩

/-- WHAT A FLUSHING POINT `t` WRITES BACK is block `t` of `G6`: output 6's buffer after point `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2⟩ := idx_facts6 t
  funext y
  have hy0 : (y 0).val < 128 := (y 0).isLt
  have hy1 : (y 1).val < 512 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 512 + 1 * (y 1).val := rfl
  have hr : run6Of (((cfg0.win 6).blk t).view.emb y) = t.val := by
    show 36 * ((((cfg0.win 6).blk t).view.emb y 0).val / 128 - 0) + 1 * ((((cfg0.win 6).blk t).view.emb y 1).val / 512 - 0) = _
    rw [hb0, hb1]
    rw [show (win0_6.index t (0 : Fin 2) * 128 + 1 * (y 0).val) / 128 = win0_6.index t (0 : Fin 2) from by omega]; rw [show (win0_6.index t (1 : Fin 2) * 512 + 1 * (y 1).val) / 512 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 128 = (y 0).val; rw [hb0]; omega
    | ⟨1, _⟩ => show (((cfg0.win 6).blk t).view.emb y 1).val % 512 = (y 1).val; rw [hb1]; omega
  have hp : pt6Of (((cfg0.win 6).blk t).view.emb y) = t.val := by
    exact hr
  show (outsAt0 m c t.val t.isLt).1 ((cfg0.win 6).xinj (grid0.coords t) y) = G6 m c (((cfg0.win 6).blk t).view.emb y)
  unfold G6
  rw [dif_pos (by rw [hp]; exact t.isLt), hl, outs_congr m c _ _ _ _ hp.symm]

/-- An index of the array is in point `t`'s block iff each coordinate is in the block's range on its axis. -/
theorem mem_blk6 (t : Fin cfg0.N) (i : S128x18432.Idx) :
    i ∈ ((cfg0.win 6).blk t).view.set ↔ ∀ a : Fin 2, win0_6.index t a * S128x512.size a ≤ (i a).val ∧ (i a).val < win0_6.index t a * S128x512.size a + S128x512.size a := by
  show i ∈ ((View.whole main_v3_0).slice (win0_6.rect t)).set ↔ _
  rw [View.set_slice_whole, Rect.mem_set_unit]
  exact Iff.rfl

/-- THE COVERED INDICES: in some flushing point's block iff inside the box those blocks fill. -/
theorem covered_iff6 (i : S128x18432.Idx) :
    (∃ t : Fin cfg0.N, (cfg0.win 6).flush t = true ∧ i ∈ ((cfg0.win 6).blk t).view.set) ↔ 0 ≤ (i 0).val ∧ (i 0).val < 128 ∧ 0 ≤ (i 1).val ∧ (i 1).val < 18432 := by
  constructor
  · rintro ⟨t, -, hi⟩
    rw [mem_blk6] at hi
    have b0 : win0_6.index t (0 : Fin 2) * 128 ≤ (i 0).val ∧ (i 0).val < win0_6.index t (0 : Fin 2) * 128 + 128 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 128 := (i 0).isLt
    have hi1 : (i 1).val < 18432 := (i 1).isLt
    obtain ⟨t, hft, ht⟩ := idx_onto6 ⟨(i 0).val / 128 - 0, by omega⟩ ⟨(i 1).val / 512 - 0, by omega⟩
    have q0 : win0_6.index t (0 : Fin 2) = (i 0).val / 128 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 512 ≤ (i 1).val ∧ (i 1).val < win0_6.index t (1 : Fin 2) * 512 + 512; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 128 := (i 0).isLt; have h1 : (i 1).val < 18432 := (i 1).isLt; omega))

/-! ## Output window 7 -/

/-- The block of the array that holds index `i`, numbered in the order the points write the blocks back (one every 36 points),
    `i`'s place in it, and the point that writes it back (the last of its 36). -/
abbrev run7Of (i : S128x7168.Idx) : ℕ := 1 * ((i 0).val / 128 - 0) + 1 * ((i 1).val / 7168 - 0)
set_option backward.proofsInPublic true in
abbrev loc7Of (i : S128x7168.Idx) : S128x7168.Idx := fun a => match a with
  | ⟨0, _⟩ => ⟨(i 0).val % 128, Nat.mod_lt _ (by decide)⟩
  | ⟨1, _⟩ => ⟨(i 1).val % 7168, Nat.mod_lt _ (by decide)⟩
abbrev pt7Of (i : S128x7168.Idx) : ℕ := 36 * run7Of i + 35

/-- WHAT THE ARRAY ENDS HOLDING at index `i` inside the box the flushing blocks fill: output 7's buffer after the point that writes `i`'s block back, at `i`'s place in the block. `G7` states the array's contents
    only inside the box. -/
def G7 (c : Dev nD) : Buf (Elt F) ((c : Thread nD τ).loc main_v3_1) := fun i =>
  if h : pt7Of i < cfg0.N then
    (outsAt0 m c (pt7Of i) h).2.1 (loc7Of i)
  else V m c (Pipeline.arrRef spec0 7) i

/-- The printed index map, decided over the grid: output window 7's block indices stay in the box, and the block number
    read off them is the point's (`t / 36`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 36 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨36 * (1 * q0.val + 1 * q1.val) + 35, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's buffer after point `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  have hm : t.val % 36 = 35 := (flush0_7 t).mp hf
  obtain ⟨e0, e1, e2⟩ := idx_facts7 t
  funext y
  have hy0 : (y 0).val < 128 := (y 0).isLt
  have hy1 : (y 1).val < 7168 := (y 1).isLt
  have hb0 : (((cfg0.win 7).blk t).view.emb y 0).val = win0_7.index t (0 : Fin 2) * 128 + 1 * (y 0).val := rfl
  have hb1 : (((cfg0.win 7).blk t).view.emb y 1).val = win0_7.index t (1 : Fin 2) * 7168 + 1 * (y 1).val := rfl
  have hr : run7Of (((cfg0.win 7).blk t).view.emb y) = t.val / 36 := by
    show 1 * ((((cfg0.win 7).blk t).view.emb y 0).val / 128 - 0) + 1 * ((((cfg0.win 7).blk t).view.emb y 1).val / 7168 - 0) = _
    rw [hb0, hb1]
    rw [show (win0_7.index t (0 : Fin 2) * 128 + 1 * (y 0).val) / 128 = win0_7.index t (0 : Fin 2) from by omega]; rw [show (win0_7.index t (1 : Fin 2) * 7168 + 1 * (y 1).val) / 7168 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 128 = (y 0).val; rw [hb0]; omega
    | ⟨1, _⟩ => show (((cfg0.win 7).blk t).view.emb y 1).val % 7168 = (y 1).val; rw [hb1]; omega
  have hp : pt7Of (((cfg0.win 7).blk t).view.emb y) = t.val := by
    show 36 * run7Of (((cfg0.win 7).blk t).view.emb y) + 35 = _
    rw [hr]; have := Nat.div_add_mod t.val 36; omega
  show (outsAt0 m c t.val t.isLt).2.1 ((cfg0.win 7).xinj (grid0.coords t) y) = G7 m c (((cfg0.win 7).blk t).view.emb y)
  unfold G7
  rw [dif_pos (by rw [hp]; exact t.isLt), hl, outs_congr m c _ _ _ _ hp.symm]

/-- An index of the array is in point `t`'s block iff each coordinate is in the block's range on its axis. -/
theorem mem_blk7 (t : Fin cfg0.N) (i : S128x7168.Idx) :
    i ∈ ((cfg0.win 7).blk t).view.set ↔ ∀ a : Fin 2, win0_7.index t a * S128x7168.size a ≤ (i a).val ∧ (i a).val < win0_7.index t a * S128x7168.size a + S128x7168.size a := by
  show i ∈ ((View.whole main_v3_1).slice (win0_7.rect t)).set ↔ _
  rw [View.set_slice_whole, Rect.mem_set_unit]
  exact Iff.rfl

/-- THE COVERED INDICES: in some flushing point's block iff inside the box those blocks fill. -/
theorem covered_iff7 (i : S128x7168.Idx) :
    (∃ t : Fin cfg0.N, (cfg0.win 7).flush t = true ∧ i ∈ ((cfg0.win 7).blk t).view.set) ↔ 0 ≤ (i 0).val ∧ (i 0).val < 128 ∧ 0 ≤ (i 1).val ∧ (i 1).val < 7168 := by
  constructor
  · rintro ⟨t, -, hi⟩
    rw [mem_blk7] at hi
    have b0 : win0_7.index t (0 : Fin 2) * 128 ≤ (i 0).val ∧ (i 0).val < win0_7.index t (0 : Fin 2) * 128 + 128 := hi 0
    have b1 : win0_7.index t (1 : Fin 2) * 7168 ≤ (i 1).val ∧ (i 1).val < win0_7.index t (1 : Fin 2) * 7168 + 7168 := hi 1
    obtain ⟨e0, e1, e2⟩ := idx_facts7 t
    omega
  · intro h
    have hi0 : (i 0).val < 128 := (i 0).isLt
    have hi1 : (i 1).val < 7168 := (i 1).isLt
    obtain ⟨t, hft, ht⟩ := idx_onto7 ⟨(i 0).val / 128 - 0, by omega⟩ ⟨(i 1).val / 7168 - 0, by omega⟩
    have q0 : win0_7.index t (0 : Fin 2) = (i 0).val / 128 - 0 + 0 := congrFun ht 0
    have q1 : win0_7.index t (1 : Fin 2) = (i 1).val / 7168 - 0 + 0 := congrFun ht 1
    refine ⟨t, hft, ?_⟩
    rw [mem_blk7]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 7168 ≤ (i 1).val ∧ (i 1).val < win0_7.index t (1 : Fin 2) * 7168 + 7168; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 128 := (i 0).isLt; have h1 : (i 1).val < 7168 := (i 1).isLt; omega))

/-! ## The carried arrays -/

/-- The scratch holds after every point what the first point stored into it. -/
theorem carried_scratch (c : Dev nD) : ∀ (n : ℕ) (hn : n < cfg0.N),
    (outsAt0 m c n hn).2.2 = (outsAt0 m c 0 (lt_of_lt_of_eq (by decide) N_0.symm)).2.2
  | 0, _ => rfl
  | n + 1, hn => by
    have hN : cfg0.N = 36 := N_0
    rw [← carried_scratch c n (by omega), outsAt0_B m c ⟨n + 1, hn⟩ (by dsimp only; omega)]
    rfl

/-- Output 7's buffer holds after every point what the first point stored into it. -/
theorem carried_out (c : Dev nD) : ∀ (n : ℕ) (hn : n < cfg0.N),
    (outsAt0 m c n hn).2.1 = (outsAt0 m c 0 (lt_of_lt_of_eq (by decide) N_0.symm)).2.1
  | 0, _ => rfl
  | n + 1, hn => by
    have hN : cfg0.N = 36 := N_0
    rw [← carried_out c n (by omega), outsAt0_B m c ⟨n + 1, hn⟩ (by dsimp only; omega)]
    rfl

/-- Output 7's array after the run is what the first point stored. -/
theorem G7_first (c : Dev nD) : G7 m c = (outsAt0 m c 0 (lt_of_lt_of_eq (by decide) N_0.symm)).2.1 := by
  funext i
  have hi0 : (i 0).val < 128 := (i 0).isLt
  have hi1 : (i 1).val < 7168 := (i 1).isLt
  have hp : pt7Of i = 35 := by
    show 36 * (1 * ((i 0).val / 128 - 0) + 1 * ((i 1).val / 7168 - 0)) + 35 = _
    omega
  have hl : loc7Of i = i := by
    funext a; apply Fin.ext
    match a with
    | ⟨0, _⟩ => show (i 0).val % 128 = (i 0).val; omega
    | ⟨1, _⟩ => show (i 1).val % 7168 = (i 1).val; omega
  unfold G7
  rw [dif_pos (by rw [hp]; exact lt_of_lt_of_eq (by decide) N_0.symm), hl, carried_out]

/-! ## The run, read -/

/-- The frame run re-posted: each output array at what the runs leave in it, the arguments unchanged. -/
theorem run : θ_run defs (onTc (τ := τ) (main (F := F))) ⟨m, fun _ => 0, ρ⟩ fun r => ∀ c : Dev nD,
      r.2.mem ((c : Thread nD τ).loc main_v3_0) = G6 m c
      ∧ r.2.mem ((c : Thread nD τ).loc main_v3_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Claims.lean ====
/- The frames of the three programs and the `preserves` claim of the kernel and its idealization. -/
module

public import proofs.«01_k».proof.Defs
public import proofs.«01_k».proof.Proof.Kernel.Frame
public import proofs.«01_k».proof.Proof.Ideal.Value
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The kernel as printed runs to its end without a fault, leaves its arguments as they were and every semaphore at zero. -/
theorem frame_p : Cert.quiescent_Kernel := fun m ρ _ => Cert.Kernel.Gen.frame m ρ

/-- The same of the idealized kernel. -/
theorem frame_pi : Cert.quiescent_KernelIdeal := fun m ρ _ => Cert.KernelIdeal.Gen.frame m ρ

/-- The same of the idealized reference, which has no semaphores at all. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The sites of the idealization as five distinct statements: the two scratches of 64 x 512 words as bf16 pairs (one
    statement), the scale and zero rows read as words (56 rows into 28), the stores of the half words, the loads of one
    word row, and the eight word rows read as sixteen rows. -/
theorem preserves : Cert.preserves_Kernel_KernelIdeal :=
  open Cert.KernelIdeal IdealRules.bf16_pair in
  ⟨bufferStatement S64x2x512 S64x1x512, statement S56x512 S28x512, statement S28x2x512 S28x1x512,
    statement S1x2x256 S1x1x256, statement S16x256 S8x256⟩

end Cert.Proof

end
-- ==== Proof.Ideal.Tiles.lean ====
/- The index and mask vectors of the butterfly in closed form, the two block diagonals they build, and one chunk of the
   rotated activations as two nested sums over blocks of 32. -/
module

public import proofs.«01_k».proof.Proof.Gen.KernelIdeal.Skeleton
public import Idealize.ShloMosaic.Lib.Pointwise

@[expose] public section

set_option maxRecDepth 16384

noncomputable section

namespace Cert.KernelIdeal.Tiles

open Idealize.ShloMosaic Cert.KernelIdeal Cert.KernelIdeal.Gen

/-! ## The closed index and mask vectors -/

/-- The lane vector of the gather's shape. -/
abbrev lanes : IVec S256x128 32 := iota .tc S256x128 32 [1] iota_S256x128_d1_w32
/-- The row vector of the masks' shape. -/
abbrev rowsM : IVec S128x128 32 := iota .tc S128x128 32 [0] iota_S128x128_d0_w32
/-- The lane vector of the masks' shape. -/
abbrev lanesM : IVec S128x128 32 := iota .tc S128x128 32 [1] iota_S128x128_d1_w32

/-- The first factor's gather index, as the body computes it. -/
def idx1 : IVec S256x128 32 := k0_pay3 lanes k0_pay1 (Scalar.select (Scalar.cmpi .eq 32#32 0#32) 1#32 32#32) k0_pay2
/-- The second factor's gather index, as the body computes it. -/
def idx2 : IVec S256x128 32 :=
  k0_pay7 (Scalar.select (Scalar.cmpi .eq 64#32 0#32) 1#32 64#32) (k0_pay4 lanes) (k0_pay5 lanes) (k0_pay6 lanes)
/-- The first factor's mask, as the body computes it. -/
def mask1 : IVec S128x128 1 :=
  k0_pay19 (k0_pay15 (k0_pay11 lanesM k0_pay8 k0_pay9 k0_pay10) (k0_pay12 lanesM) (k0_pay13 lanesM) (k0_pay14 lanesM))
    (k0_pay16 rowsM) (k0_pay17 rowsM) k0_pay18
/-- The row's block, as the body computes it. -/
def rowBlock : IVec S128x128 32 := k0_pay23 (k0_pay20 rowsM) (k0_pay21 rowsM) (k0_pay22 rowsM)
/-- The second factor's mask, as the body computes it. -/
def mask2 : IVec S128x128 1 :=
  k0_pay28 rowBlock (k0_pay24 lanesM) (k0_pay25 lanesM) (k0_pay26 lanesM) (k0_pay27 lanesM)

/-- The first factor's gather index at lane `l`, in closed form. -/
theorem idx1_apply (r : Fin 256) (l : Fin 128) :
    idx1 (ix2 r l) = BitVec.ofNat 32 ((l.val % 32 * 2 + l.val / 32 % 2) % 32) := by
  pointwise [idx1, k0_pay3, k0_pay1, k0_pay2, lanes]
  clear r
  revert l
  decide +kernel

/-- The second factor's gather index at lane `l`, in closed form. -/
theorem idx2_apply (r : Fin 256) (l : Fin 128) :
    idx2 (ix2 r l) = BitVec.ofNat 32 (l.val % 64 / 2) := by
  pointwise [idx2, k0_pay7, k0_pay4, k0_pay5, k0_pay6, lanes]
  clear r
  revert l
  decide +kernel

/-- The first factor's mask: the row's block of 32 is the block of the lane's shuffled channel. -/
theorem mask1_apply (r l : Fin 128) :
    mask1 (ix2 r l) = if r.val / 32 = (l.val / 64 * 64 + l.val % 32 * 2 + l.val / 32 % 2) / 32 then 1#1 else 0#1 := by
  pointwise [mask1, k0_pay19, k0_pay15, k0_pay11, k0_pay8, k0_pay9, k0_pay10, k0_pay12, k0_pay13, k0_pay14, k0_pay16, k0_pay17, k0_pay18, lanesM, rowsM]
  revert r l
  decide +kernel

/-- The second factor's mask: the row's block of 32 is the one the lane's channel was gathered in. -/
theorem mask2_apply (r l : Fin 128) :
    mask2 (ix2 r l) = if r.val / 32 = l.val / 64 * 2 + l.val % 2 then 1#1 else 0#1 := by
  pointwise [mask2, rowBlock, k0_pay28, k0_pay23, k0_pay20, k0_pay21, k0_pay22, k0_pay24, k0_pay25, k0_pay26, k0_pay27, lanesM, rowsM]
  revert r l
  decide +kernel

/-! ## A block diagonal, read at an index -/

/-- The wrap of a negative gather index leaves an index under 32 alone. -/
theorem slt32 (f : Fin 32) : Scalar.select (IntOp.cmpi .slt (BitVec.ofNat 32 f.val) 0#32)
    (IntOp.addi (BitVec.ofNat 32 f.val) 128#32) (BitVec.ofNat 32 f.val) = BitVec.ofNat 32 f.val := by
  revert f; decide +kernel

/-- A number under 32 survives its 32-bit word and the wrap at 128 lanes. -/
theorem wrap32 (f : Fin 32) : (BitVec.ofNat 32 f.val).toNat % 128 = f.val := by
  revert f; decide +kernel

/-- The block diagonal built from a factor's 256 rows: inside the two 128-blocks of the diagonal and under the mask, the
    row's entry at the column the gather index names; 0 elsewhere. -/
theorem blockDiag_apply (idx : IVec S256x128 32) (mask : IVec S128x128 1) (c : Vec Ideal S1x256x32 .bf16)
    (f : Fin 128 → Fin 32) (p : Fin 128 → Fin 128 → Prop) [∀ r l, Decidable (p r l)]
    (hidx : ∀ (r : Fin 256) (l : Fin 128), idx (ix2 r l) = BitVec.ofNat 32 (f l).val)
    (hmask : ∀ r l : Fin 128, mask (ix2 r l) = if p r l then 1#1 else 0#1)
    (r l : Fin 256) :
    k0_pay29 idx mask c (ix2 r l) = if r.val / 128 = l.val / 128
        ∧ p ⟨r.val % 128, Nat.mod_lt _ (by decide)⟩ ⟨l.val % 128, Nat.mod_lt _ (by decide)⟩
      then c (ix3 0 r (f ⟨l.val % 128, Nat.mod_lt _ (by decide)⟩)) else 0 := by
  pointwise [k0_pay29, hidx, hmask, slt32]
  simp only [wrap32, Fin.is_lt, dite_true, Fin.eta]
  by_cases hr : r.val < 128 <;> by_cases hl : l.val < 128
  · have h1 : r.val / 128 = l.val / 128 := by omega
    simp only [hr, hl, dite_true, h1, true_and, Nat.mod_eq_of_lt hr, Nat.mod_eq_of_lt hl]
    by_cases hp : p ⟨r.val, hr⟩ ⟨l.val, hl⟩ <;> simp [hp, Scalar.select]
  · have h1 : ¬ r.val / 128 = l.val / 128 := by omega
    simp only [hr, hl, dite_true, dite_false, h1, false_and, if_false]
  · have h1 : ¬ r.val / 128 = l.val / 128 := by omega
    simp only [hr, hl, dite_true, dite_false, h1, false_and, if_false]
  · have h1 : r.val / 128 = l.val / 128 := by omega
    have h2 : r.val % 128 = r.val - 128 := by omega
    have h3 : l.val % 128 = l.val - 128 := by omega
    have h4 : 128 + (r.val - 128) = r.val := by omega
    simp only [hr, hl, dite_false, h1, true_and, h2, h3, h4, Fin.eta]
    by_cases hp : p ⟨r.val - 128, by omega⟩ ⟨l.val - 128, by omega⟩ <;> simp [hp, Scalar.select]

/-- The first factor's block diagonal: row `r` meets lane `l` when both lie in one block of 32 channels, the lane's
    channel being the shuffled one. -/
theorem factor1_apply (c : Vec Ideal S1x256x32 .bf16) (r l : Fin 256) :
    k0_pay29 idx1 mask1 c (ix2 r l)
      = if r.val / 32 = (l.val / 64 * 64 + l.val % 32 * 2 + l.val / 32 % 2) / 32
        then c (ix3 0 r ⟨(l.val % 32 * 2 + l.val / 32 % 2) % 32, Nat.mod_lt _ (by decide)⟩) else 0 := by
  rw [blockDiag_apply idx1 mask1 c (fun l => ⟨(l.val % 32 * 2 + l.val / 32 % 2) % 32, Nat.mod_lt _ (by decide)⟩)
    (fun r l => r.val / 32 = (l.val / 64 * 64 + l.val % 32 * 2 + l.val / 32 % 2) / 32) idx1_apply mask1_apply]
  have e1 : l.val % 128 % 32 = l.val % 32 := by omega
  have e2 : l.val % 128 / 32 % 2 = l.val / 32 % 2 := by omega
  have f1 : l.val % 128 / 64 = l.val / 64 % 2 := by omega
  have f2 : l.val / 128 = l.val / 64 / 2 := by omega
  have f3 : r.val / 128 = r.val / 32 / 4 := by omega
  have f4 : r.val % 128 / 32 = r.val / 32 % 4 := by omega
  have f5 : l.val % 32 * 2 + l.val / 32 % 2 < 64 := by omega
  simp only [e1, e2, f1, f2, f3, f4]
  refine if_congr ?_ rfl rfl
  simp only [Nat.add_assoc]
  generalize l.val % 32 * 2 + l.val / 32 % 2 = w at f5 ⊢
  generalize l.val / 64 = a
  generalize r.val / 32 = R
  constructor <;> intro h <;> omega

/-- The second factor's block diagonal: row `r` meets lane `l` when the row lies in the block of 32 lanes the lane's
    own channel was gathered in. -/
theorem factor2_apply (c : Vec Ideal S1x256x32 .bf16) (r l : Fin 256) :
    k0_pay29 idx2 mask2 c (ix2 r l)
      = if r.val / 32 = l.val / 64 * 2 + l.val % 2
        then c (ix3 0 r ⟨l.val % 64 / 2, by omega⟩) else 0 := by
  rw [blockDiag_apply idx2 mask2 c (fun l => ⟨l.val % 64 / 2, by omega⟩)
    (fun r l => r.val / 32 = l.val / 64 * 2 + l.val % 2) idx2_apply mask2_apply]
  have e1 : l.val % 128 % 64 = l.val % 64 := by omega
  simp only [e1]
  refine if_congr ?_ rfl rfl
  have := r.isLt; have := l.isLt
  constructor <;> intro h <;> omega

/-- A sum over 256 lanes that keeps one block of 32 is the sum over that block. -/
theorem sum_block (B : Nat) (hB : B < 8) (F : Fin 256 → EReal) :
    (∑ k : Fin 256, if k.val / 32 = B then F k else 0) = ∑ j : Fin 32, F ⟨32 * B + j.val, by omega⟩ := by
  rw [← (finProdFinEquiv : Fin 8 × Fin 32 ≃ Fin 256).sum_comp, Fintype.sum_prod_type, Finset.sum_eq_single (⟨B, hB⟩ : Fin 8)]
  · refine Finset.sum_congr rfl fun j _ => ?_
    have hv : (finProdFinEquiv ((⟨B, hB⟩ : Fin 8), j)).val = 32 * B + j.val := by
      rw [finProdFinEquiv_apply_val]; exact Nat.add_comm _ _
    have hc : (finProdFinEquiv ((⟨B, hB⟩ : Fin 8), j)).val / 32 = B := by rw [hv]; omega
    rw [if_pos hc]
    exact congrArg F (Fin.ext hv)
  · intro b _ hb
    refine Finset.sum_eq_zero fun j _ => ?_
    have hv : (finProdFinEquiv (b, j)).val = 32 * b.val + j.val := by
      rw [finProdFinEquiv_apply_val]; exact Nat.add_comm _ _
    rw [if_neg]
    intro hc
    rw [hv] at hc
    exact hb (Fin.ext (by show b.val = B; omega))
  · intro h; exact absurd (Finset.mem_univ _) h

/-- A chunk of the butterfly, read at an index: two nested sums over blocks of 32. -/
theorem chunk_apply (b1 b2 : Vec Ideal S1x256x32 .bf16) (x : Vec Ideal S128x256 .bf16) (i : Fin 128) (l : Fin 256) :
    k0_pay31 (k0_pay29 idx1 mask1 b1) (k0_pay29 idx2 mask2 b2) x (ix2 i l)
      = (∑ j : Fin 32, (∑ j' : Fin 32, (x (ix2 i ⟨32 * (l.val / 64 * 2 + j.val / 16) + j'.val, by omega⟩) : EReal)
            * b1 (ix3 0 ⟨32 * (l.val / 64 * 2 + j.val / 16) + j'.val, by omega⟩ ⟨(j.val * 2 + l.val % 2) % 32, by omega⟩))
          * b2 (ix3 0 ⟨32 * (l.val / 64 * 2 + l.val % 2) + j.val, by omega⟩ ⟨l.val % 64 / 2, by omega⟩) : EReal) := by
  pointwise [k0_pay31, factor1_apply, factor2_apply]
  simp only [mul_ite, mul_zero]
  rw [sum_block (l.val / 64 * 2 + l.val % 2) (by omega)]
  refine Finset.sum_congr rfl fun j _ => ?_
  congr 1
  have hj := j.isLt
  have g1 : (32 * (l.val / 64 * 2 + l.val % 2) + j.val) / 64 = l.val / 64 := by omega
  have g2 : (32 * (l.val / 64 * 2 + l.val % 2) + j.val) % 32 = j.val := by omega
  have g3 : (32 * (l.val / 64 * 2 + l.val % 2) + j.val) / 32 % 2 = l.val % 2 := by omega
  have e1 : (l.val / 64 * 64 + j.val * 2 + l.val % 2) / 32 = l.val / 64 * 2 + j.val / 16 := by omega
  simp only [g1, g2, g3, e1]
  rw [sum_block (l.val / 64 * 2 + j.val / 16) (by omega)]

end Cert.KernelIdeal.Tiles
-- ==== Proof.Ideal.Pieces.lean ====
/- What the idealized kernel's body stores, in closed form: the 28 chunks of the rotated activations, and the two
   column halves of a block of the product as a walk over the 28 chunks. -/
module

public import proofs.«01_k».proof.Proof.Ideal.Frame
public import proofs.«01_k».proof.Proof.Ideal.Tiles

@[expose] public section

set_option maxRecDepth 16384

noncomputable section

namespace Cert.KernelIdeal.Pieces

open Cert.KernelIdeal Cert.KernelIdeal.Gen Cert.KernelIdeal.Tiles Idealize.ShloMosaic Idealize.ShloMosaic.TcCoe Idealize.SL.Sem

variable {F : FTy → Type} [FloatOps F]

/-! ## The boxes the body loads and stores -/

/-- Columns 256 k to 256 k + 255 of the activations. -/
abbrev colBox (k : Fin 28) : Rect S128x7168 := Rect.unit ![0, 256 * k.val] S128x256.size (fun a => match a with
  | ⟨0, _⟩ => Nat.le_refl _
  | ⟨1, _⟩ => by have := k.isLt; show 256 * k.val + 256 ≤ 7168; omega)

/-- Rows 256 k to 256 k + 255 of butterfly factor `f`. -/
abbrev facBox (f : Fin 2) (k : Fin 28) : Rect S2x7168x32 := Rect.unit ![f.val, 256 * k.val, 0] S1x256x32.size (fun a => match a with
  | ⟨0, _⟩ => by have := f.isLt; show f.val + 1 ≤ 2; omega
  | ⟨1, _⟩ => by have := k.isLt; show 256 * k.val + 256 ≤ 7168; omega
  | ⟨2, _⟩ => Nat.le_refl _)

/-- Column half `n` of the packed rows of weight group `g`. -/
abbrev wBox (n : Fin 2) (g : Fin 56) : Rect S3584x512 := Rect.unit ![64 * g.val, 256 * n.val] S64x256.size (fun a => match a with
  | ⟨0, _⟩ => by have := g.isLt; show 64 * g.val + 64 ≤ 3584; omega
  | ⟨1, _⟩ => by have := n.isLt; show 256 * n.val + 256 ≤ 512; omega)

/-- Column half `n` of the row of weight group `g` in the scale or zero scratch. -/
abbrev sBox (n : Fin 2) (g : Fin 56) : Rect S64x2x512 := Rect.unit ![g.val % 2 * 32 + g.val / 2, 0, 256 * n.val] S1x2x256.size (fun a => match a with
  | ⟨0, _⟩ => by have := g.isLt; show g.val % 2 * 32 + g.val / 2 + 1 ≤ 64; omega
  | ⟨1, _⟩ => Nat.le_refl _
  | ⟨2, _⟩ => by have := n.isLt; show 256 * n.val + 256 ≤ 512; omega)

/-- Column half `n` of the output scale. -/
abbrev oBox (n : Fin 2) : Rect S1x512 := Rect.unit ![0, 256 * n.val] S1x256.size (fun a => match a with
  | ⟨0, _⟩ => Nat.le_refl _
  | ⟨1, _⟩ => by have := n.isLt; show 256 * n.val + 256 ≤ 512; omega)

/-- Column half `n` of the output block. -/
abbrev yBox (n : Fin 2) : Rect S128x512 := Rect.unit ![0, 256 * n.val] S128x256.size (fun a => match a with
  | ⟨0, _⟩ => Nat.le_refl _
  | ⟨1, _⟩ => by have := n.isLt; show 256 * n.val + 256 ≤ 512; omega)

/-! ## The butterfly -/

/-- One chunk of the rotated activations: the two block diagonal products, rounded after each. -/
def bstep (b1 b2 : Vec F S1x256x32 .bf16) (x : Vec F S128x256 .bf16) : FVec F S128x256 .bf16 :=
  k0_pay31 (k0_pay29 idx1 mask1 b1) (k0_pay29 idx2 mask2 b2) x

/-- The pieces the first grid point stores: the 28 chunks, the last first. -/
def chunks (x0 : Vec F S128x7168 .bf16) (x1 : Vec F S2x7168x32 .bf16) (arg1 : Memref sig .tc .vmem S128x7168 .bf16) (harg1 : arg1.IsWhole)
    (arg2 : Memref sig .tc .vmem S2x7168x32 .bf16) (harg2 : arg2.IsWhole) : List (View.Piece (Elt F) S128x7168 .bf16) :=
  (List.finRange 28).reverse.map fun k => ⟨colBox k,
    bstep (View.readAt (Elt F) arg2.view (facBox 0 k).toLoadRect (harg2.unread x1))
      (View.readAt (Elt F) arg2.view (facBox 1 k).toLoadRect (harg2.unread x1))
      (View.readAt (Elt F) arg1.view (colBox k).toLoadRect (harg1.unread x0))⟩

/-- The pieces the first grid point carries to the others: the same chunks, through a cast to their own shape. -/
def carried (x0 : Vec F S128x7168 .bf16) (x1 : Vec F S2x7168x32 .bf16) (arg1 : Memref sig .tc .vmem S128x7168 .bf16) (harg1 : arg1.IsWhole)
    (arg2 : Memref sig .tc .vmem S2x7168x32 .bf16) (harg2 : arg2.IsWhole) : List (View.Piece (Elt F) S128x7168 .bf16) :=
  (List.finRange 28).reverse.map fun k => ⟨colBox k,
    shapeCast S128x256 (bstep (View.readAt (Elt F) arg2.view (facBox 0 k).toLoadRect (harg2.unread x1))
      (View.readAt (Elt F) arg2.view (facBox 1 k).toLoadRect (harg2.unread x1))
      (View.readAt (Elt F) arg1.view (colBox k).toLoadRect (harg1.unread x0))) shapeCasts_S128x256_S128x256⟩

/-! ## The product -/

/-- The scale or zero scratch after its two stores: the even rows at row 0, the odd rows at row 32. -/
def groupRows (v : Vec F S56x512 .bf16) : List (View.Piece (Elt F) S64x2x512 .bf16) :=
  [⟨Rect.unit ![32, 0, 0] S28x2x512.size inb_S64x2x512_S28x2x512_32_0_0, k0_pay155 v⟩,
    ⟨Rect.unit ![0, 0, 0] S28x2x512.size inb_S64x2x512_S28x2x512_0_0_0, k0_pay154 v⟩]

/-- The running sum after `n` of the 28 chunks. -/
def accum (X : Fin 28 → Vec F S128x256 .bf16) (S Z : Fin 56 → Vec F S1x2x256 .bf16) (W : Fin 56 → Vec F S64x256 .i8) :
    (n : ℕ) → n ≤ 28 → FVec F S128x256 .f32
  | 0, _ => k0_pay162
  | n + 1, h => k0_pay164 (accum X S Z W n (Nat.le_of_succ_le h))
      (k0_pay163 (S ⟨2 * n, Nat.lt_of_lt_of_le (by omega) (Nat.mul_le_mul_left 2 h)⟩) (Z ⟨2 * n, Nat.lt_of_lt_of_le (by omega) (Nat.mul_le_mul_left 2 h)⟩) (W ⟨2 * n, Nat.lt_of_lt_of_le (by omega) (Nat.mul_le_mul_left 2 h)⟩))
      (S ⟨2 * n + 1, Nat.lt_of_lt_of_le (by omega) (Nat.mul_le_mul_left 2 h)⟩) (Z ⟨2 * n + 1, Nat.lt_of_lt_of_le (by omega) (Nat.mul_le_mul_left 2 h)⟩) (W ⟨2 * n + 1, Nat.lt_of_lt_of_le (by omega) (Nat.mul_le_mul_left 2 h)⟩)
      (X ⟨n, h⟩)

/-- The sum times the output scale, rounded. -/
def scaled (acc : FVec F S128x256 .f32) (o : Vec F S1x256 .f32) : FVec F S128x256 .bf16 :=
  truncf .bf16 (mulf acc (broadcastTo S128x256 (shapeCast S1x256 o shapeCasts_S1x256_S1x256) broadcasts_S1x256_S128x256)) bitsLt_bf16_f32

/-- A product piece from the loads it takes. -/
def ypiece (X : Fin 28 → Vec F S128x256 .bf16) (S Z : Fin 56 → Vec F S1x2x256 .bf16) (W : Fin 56 → Vec F S64x256 .i8)
    (o : Vec F S1x256 .f32) : FVec F S128x256 .bf16 :=
  scaled (accum X S Z W 28 (Nat.le_refl 28)) o

/-- The two pieces of a block of the product, the right half first. -/
def yparts (X : Fin 28 → Vec F S128x256 .bf16) (x2 : Vec F S3584x512 .i8) (x3 x4 : Vec F S56x512 .bf16) (x5 : Vec F S1x512 .f32)
    (arg3 : Memref sig .tc .vmem S3584x512 .i8) (harg3 : arg3.IsWhole) (arg4 : Memref sig .tc .vmem S56x512 .bf16) (harg4 : arg4.IsWhole)
    (arg5 : Memref sig .tc .vmem S56x512 .bf16) (harg5 : arg5.IsWhole) (arg6 : Memref sig .tc .vmem S1x512 .f32) (harg6 : arg6.IsWhole)
    (arg10 arg11 : Memref sig .tc .vmem S64x2x512 .bf16) : List (View.Piece (Elt F) S128x512 .bf16) :=
  [1, 0].map fun n : Fin 2 => ⟨yBox n, ypiece X
    (fun g => arg10.view.readCov (groupRows (View.readAt (Elt F) arg4.view (Rect.unit ![0, 0] S56x512.size inb_S56x512_S56x512_0_0).toLoadRect (harg4.unread x3))) (sBox n g).toLoadRect)
    (fun g => arg11.view.readCov (groupRows (View.readAt (Elt F) arg5.view (Rect.unit ![0, 0] S56x512.size inb_S56x512_S56x512_0_0).toLoadRect (harg5.unread x4))) (sBox n g).toLoadRect)
    (fun g => View.readAt (Elt F) arg3.view (wBox n g).toLoadRect (harg3.unread x2))
    (View.readAt (Elt F) arg6.view (oBox n).toLoadRect (harg6.unread x5))⟩

section
variable (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole)
    (x0 : Vec F S128x7168 .bf16) (x1 : Vec F S2x7168x32 .bf16) (x2 : Vec F S3584x512 .i8) (x3 : Vec F S56x512 .bf16) (x4 : Vec F S56x512 .bf16) (x5 : Vec F S1x512 .f32)

/-- The first grid point's stores into the rotated output are the chunks. -/
theorem rotated_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.1
      = chunks x0 x1 arg1 harg1 arg2 harg2 := by
  sl_kernel_rfl

/-- What the first grid point carries is the chunks, cast. -/
theorem carried_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1
      = carried x0 x1 arg1 harg1 arg2 harg2 := by
  sl_kernel_rfl

/-- The first grid point's stores into the product, each from the carried chunks it read back. -/
theorem product_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).1
      = yparts (fun k => arg9.view.readCov (carried x0 x1 arg1 harg1 arg2 harg2) (colBox k).toLoadRect) x2 x3 x4 x5
          arg3 harg3 arg4 harg4 arg5 harg5 arg6 harg6 arg10 arg11 := by
  sl_kernel_rfl

/-- Every other grid point's stores into the product, each from the chunks carried to it. -/
theorem product_B (hc0 : ¬cond0_0 i) (xs0 : Vec F S128x7168 .bf16) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1
      = yparts (fun k => View.readAt (Elt F) arg9.view (colBox k).toLoadRect (harg9.unread xs0)) x2 x3 x4 x5
          arg3 harg3 arg4 harg4 arg5 harg5 arg6 harg6 arg10 arg11 := by
  sl_kernel_rfl

end

end Cert.KernelIdeal.Pieces

end
-- ==== Proof.Closed.lean ====
/- The closed forms both programs are read as: the rotated activations as two nested sums over blocks of 32, and the
   product as one sum over the 7168 dequantized weight rows. -/
module

public import Idealize.ShloMosaic.Lib.Pointwise

@[expose] public section

noncomputable section

namespace Cert.Closed

open Idealize.ShloMosaic

/-- The nibble of a packed byte a weight row of parity `p` takes: the low one for an even row, the high one for an odd. -/
def nib (w : BitVec 8) (p : Nat) : EReal :=
  if p = 0 then FloatOps.sitofp (F := Ideal) .bf16 (IntOp.andi (BitVec.setWidth 32 w) 15#32)
  else FloatOps.sitofp (F := Ideal) .bf16 (IntOp.shrsi ArithUnit.vector (BitVec.setWidth 32 w) 4#32)

/-- The activations after the first butterfly factor: column `n` mixes the 32 columns of its own block. The factors are
    given by rows: row `32 B + j` of factor `f` is row `j` of its block `B`. -/
def first (x : Fin 128 → Fin 7168 → EReal) (b : Fin 2 → Fin 7168 → Fin 32 → EReal) (i : Fin 128) (n : Fin 7168) : EReal :=
  ∑ j : Fin 32, x i ⟨32 * (n.val / 32) + j.val, by omega⟩ * b 0 ⟨32 * (n.val / 32) + j.val, by omega⟩ ⟨n.val % 32, by omega⟩

/-- The rotated activations: after the second factor, column `n` mixes the 32 columns of its parity in its 64. -/
def rot (x : Fin 128 → Fin 7168 → EReal) (b : Fin 2 → Fin 7168 → Fin 32 → EReal) (i : Fin 128) (n : Fin 7168) : EReal :=
  ∑ j : Fin 32, first x b i ⟨64 * (n.val / 64) + 2 * j.val + n.val % 2, by omega⟩
    * b 1 ⟨32 * (2 * (n.val / 64) + n.val % 2) + j.val, by omega⟩ ⟨n.val % 64 / 2, by omega⟩

/-- Row `r` of the dequantized weight in column `n`: a nibble of packed row `r / 2` less the zero of its group of 128
    rows, times the group's scale. -/
def weight (w : Fin 3584 → Fin 18432 → BitVec 8) (s z : Fin 56 → Fin 18432 → EReal) (r : Fin 7168) (n : Fin 18432) : EReal :=
  (nib (w ⟨r.val / 2, by omega⟩ n) (r.val % 2) - z ⟨r.val / 128, by omega⟩ n) * s ⟨r.val / 128, by omega⟩ n

/-- The product of the rotated activations `X` and the dequantized weight, times the output scale. -/
def prod (X : Fin 128 → Fin 7168 → EReal) (w : Fin 3584 → Fin 18432 → BitVec 8) (s z : Fin 56 → Fin 18432 → EReal)
    (o : Fin 18432 → EReal) (i : Fin 128) (n : Fin 18432) : EReal :=
  (∑ r : Fin 7168, X i r * weight w s z r n) * o n

/-- A sum over 7168 rows is the sum over 28 chunks of 256. -/
theorem sum_chunks (f : Fin 7168 → EReal) :
    ∑ k : Fin 28, ∑ l : Fin 256, f ⟨256 * k.val + l.val, by omega⟩ = ∑ r : Fin 7168, f r := by
  rw [← Fintype.sum_prod_type' (f := fun (k : Fin 28) (l : Fin 256) => f ⟨256 * k.val + l.val, by omega⟩)]
  refine Fintype.sum_equiv (finProdFinEquiv : Fin 28 × Fin 256 ≃ Fin (28 * 256)) _ f fun p => ?_
  refine congrArg f (Fin.ext ?_)
  show 256 * p.1.val + p.2.val = p.2.val + 256 * p.1.val
  omega

/-- A sum over 7168 rows is the sum over the even ones and the sum over the odd ones. -/
theorem sum_parity (f : Fin 7168 → EReal) :
    (∑ x : Fin 3584, f ⟨2 * x.val, by omega⟩) + (∑ x : Fin 3584, f ⟨1 + 2 * x.val, by omega⟩) = ∑ r : Fin 7168, f r := by
  rw [← Finset.sum_add_distrib]
  refine Eq.trans ?_ (Fintype.sum_equiv (finProdFinEquiv : Fin 3584 × Fin 2 ≃ Fin (3584 * 2)) (fun p => f ⟨p.2.val + 2 * p.1.val, by omega⟩) f fun p => rfl)
  rw [Fintype.sum_prod_type]
  refine Finset.sum_congr rfl fun x _ => ?_
  rw [Fin.sum_univ_two]
  refine congrArg₂ (· + ·) (congrArg f (Fin.ext ?_)) rfl
  show 2 * x.val = 0 + 2 * x.val
  omega

end Cert.Closed

end
-- ==== Proof.Ideal.Weights.lean ====
/- The product's pieces read at an index: the running sum over the 28 chunks is a sum of products with dequantized
   weight rows. -/
module

public import proofs.«01_k».proof.Proof.Ideal.Pieces
public import proofs.«01_k».proof.Proof.Closed
public import Idealize.ShloMosaic.Lib.Pointwise

@[expose] public section

set_option maxRecDepth 16384

noncomputable section

namespace Cert.KernelIdeal.Weights

open Idealize.ShloMosaic Cert.KernelIdeal Cert.KernelIdeal.Gen Cert.KernelIdeal.Pieces Cert.Closed

/-- The first 128 weight rows of a chunk, dequantized, read at an index. -/
theorem tile1_apply (s z : Vec Ideal S1x2x256 .bf16) (w : Vec Ideal S64x256 .i8) (r : Fin 128) (c : Fin 256)
    (hS : ∀ p c, s (ix3 0 p c) = s (ix3 0 0 c)) (hZ : ∀ p c, z (ix3 0 p c) = z (ix3 0 0 c)) :
    k0_pay163 s z w (ix2 r c)
      = ((nib (w (ix2 ⟨r.val / 2, by omega⟩ c)) (r.val % 2) - (z (ix3 0 0 c) : EReal)) * (s (ix3 0 0 c) : EReal) : EReal) := by
  pointwise [k0_pay163, hS, hZ]
  have e : r.val / 16 * 16 + r.val % 16 = r.val := by omega
  simp only [dite_eq_ite, ite_self, e, nib]
  have h01 : (r.val % 2 < 1) = (r.val % 2 = 0) := by simp only [eq_iff_iff]; omega
  simp only [h01]
  by_cases h : r.val % 2 = 0 <;> simp only [h, if_true, if_false, dite_true, dite_false]

/-- One chunk's step of the running sum, read at an index: the first 128 rows from the tile, the last 128 dequantized
    in place. -/
theorem step_apply (a : FVec Ideal S128x256 .f32) (t : FVec Ideal S128x256 .bf16) (s z : Vec Ideal S1x2x256 .bf16)
    (w : Vec Ideal S64x256 .i8) (x : Vec Ideal S128x256 .bf16) (r : Fin 128) (c : Fin 256)
    (hS : ∀ p c, s (ix3 0 p c) = s (ix3 0 0 c)) (hZ : ∀ p c, z (ix3 0 p c) = z (ix3 0 0 c)) (T : Fin 256 → EReal)
    (h1 : ∀ (l : Fin 256) (h : l.val < 128), T l = t (ix2 ⟨l.val, h⟩ c))
    (h2 : ∀ (l : Fin 256), ¬ l.val < 128 → T l
      = (nib (w (ix2 ⟨(l.val - 128) / 2, by omega⟩ c)) ((l.val - 128) % 2) - (z (ix3 0 0 c) : EReal)) * (s (ix3 0 0 c) : EReal)) :
    k0_pay164 a t s z w x (ix2 r c) = ((a (ix2 r c) : EReal) + ∑ l : Fin 256, (x (ix2 r l) : EReal) * T l : EReal) := by
  pointwise [k0_pay164, hS, hZ]
  refine congrArg (fun t : EReal => (a (ix2 r c) : EReal) + t) (Finset.sum_congr rfl fun l _ => ?_)
  refine congrArg (fun t : EReal => (x (ix2 r l) : EReal) * t) ?_
  by_cases hl : l.val < 128
  · rw [h1 l hl, dif_pos hl]
  · have e : (l.val - 128) / 16 * 16 + (l.val - 128) % 16 = l.val - 128 := by omega
    rw [h2 l hl, dif_neg hl]
    simp only [dite_eq_ite, ite_self, e, nib]
    have h01 : ((l.val - 128) % 2 < 1) = ((l.val - 128) % 2 = 0) := by simp only [eq_iff_iff]; omega
    simp only [h01]
    by_cases h : (l.val - 128) % 2 = 0 <;> simp only [h, if_true, if_false, dite_true, dite_false]

/-- The store of the even rows of the scales or zeros, read at an index: either half of a word is the row's entry. -/
theorem even_apply (v : Vec Ideal S56x512 .bf16) (r : Fin 28) (p : Fin 2) (c : Fin 512) :
    k0_pay154 v (ix3 r p c) = v (ix2 ⟨2 * r.val, by omega⟩ c) := by
  pointwise [k0_pay154]
  simp only [ite_self]

/-- The store of the odd rows, likewise. -/
theorem odd_apply (v : Vec Ideal S56x512 .bf16) (r : Fin 28) (p : Fin 2) (c : Fin 512) :
    k0_pay155 v (ix3 r p c) = v (ix2 ⟨2 * r.val + 1, by omega⟩ c) := by
  pointwise [k0_pay155]
  simp only [ite_self]

/-- The sum times the output scale, read at an index. -/
theorem scaled_apply (a : FVec Ideal S128x256 .f32) (o : Vec Ideal S1x256 .f32) (r : Fin 128) (c : Fin 256) :
    scaled a o (ix2 r c) = ((a (ix2 r c) : EReal) * (o (ix2 0 c) : EReal) : EReal) := by
  pointwise [scaled]

/-- Of two stores, an index only the earlier one covers holds the earlier one's payload. -/
theorem canon_second {T : Shape} {e : EltTy} (r1 r2 : Rect T) (w1 : r1.shape.Idx → Elt Ideal e) (w2 : r2.shape.Idx → Elt Ideal e)
    (y : T.Idx) (x : r2.shape.Idx) (hm : y ∉ r1.set) (hy : y = r2.emb x) :
    View.canon ([⟨r1, w1⟩, ⟨r2, w2⟩] : List (View.Piece (Elt Ideal) T e)) y = w2 x := by
  rw [View.canon_cons_of_not_mem _ _ hm, hy, View.canon_cons_emb]

/-- Of two stores, an index the later one covers holds the later one's payload. -/
theorem canon_first {T : Shape} {e : EltTy} (r1 r2 : Rect T) (w1 : r1.shape.Idx → Elt Ideal e) (w2 : r2.shape.Idx → Elt Ideal e)
    (y : T.Idx) (x : r1.shape.Idx) (hy : y = r1.emb x) :
    View.canon ([⟨r1, w1⟩, ⟨r2, w2⟩] : List (View.Piece (Elt Ideal) T e)) y = w1 x := by
  rw [hy, View.canon_cons_emb]

/-- A load from the scale or zero scratch: column half `n` of group `g`'s row, in either half of a word. -/
theorem group_apply (arg : Memref sig .tc .vmem S64x2x512 .bf16) (v : Vec Ideal S56x512 .bf16) (n : Fin 2) (g : Fin 56) (p : Fin 2) (c : Fin 256) :
    arg.view.readCov (groupRows v) (sBox n g).toLoadRect (ix3 0 p c) = v (ix2 g ⟨256 * n.val + c.val, by omega⟩) := by
  rw [View.readCov_eq_canon']
  show View.canon (groupRows v) ((sBox n g).idx (ix3 0 p c)) = _
  have hg := g.isLt
  have hn := n.isLt
  have hc := c.isLt
  by_cases h : g.val % 2 = 0
  · have hy : (sBox n g).idx (ix3 0 p c)
        = (Rect.unit (s := S64x2x512) ![0, 0, 0] S28x2x512.size inb_S64x2x512_S28x2x512_0_0_0).emb (ix3 ⟨g.val / 2, by omega⟩ p ⟨256 * n.val + c.val, by omega⟩) := by
      funext a; apply Fin.ext
      match a with
      | ⟨0, _⟩ => show g.val % 2 * 32 + g.val / 2 + 1 * 0 = 0 + 1 * (g.val / 2); omega
      | ⟨1, _⟩ => rfl
      | ⟨2, _⟩ => show 256 * n.val + 1 * c.val = 0 + 1 * (256 * n.val + c.val); omega
    have hm : (sBox n g).idx (ix3 0 p c) ∉ (Rect.unit (s := S64x2x512) ![32, 0, 0] S28x2x512.size inb_S64x2x512_S28x2x512_32_0_0).set := by
      intro hm
      have h0 := (Rect.mem_set_unit.mp hm) ⟨0, by decide⟩
      have h1 : 32 ≤ g.val % 2 * 32 + g.val / 2 + 1 * 0 := h0.1
      omega
    unfold groupRows
    refine (canon_second _ _ _ _ _ (ix3 ⟨g.val / 2, by omega⟩ p ⟨256 * n.val + c.val, by omega⟩) hm hy).trans ?_
    refine (even_apply v ⟨g.val / 2, by omega⟩ p ⟨256 * n.val + c.val, by omega⟩).trans ?_
    exact congrArg v (by congr 1; exact Fin.ext (by show 2 * (g.val / 2) = g.val; omega))
  · have hy : (sBox n g).idx (ix3 0 p c)
        = (Rect.unit (s := S64x2x512) ![32, 0, 0] S28x2x512.size inb_S64x2x512_S28x2x512_32_0_0).emb (ix3 ⟨g.val / 2, by omega⟩ p ⟨256 * n.val + c.val, by omega⟩) := by
      funext a; apply Fin.ext
      match a with
      | ⟨0, _⟩ => show g.val % 2 * 32 + g.val / 2 + 1 * 0 = 32 + 1 * (g.val / 2); omega
      | ⟨1, _⟩ => rfl
      | ⟨2, _⟩ => show 256 * n.val + 1 * c.val = 0 + 1 * (256 * n.val + c.val); omega
    unfold groupRows
    refine (canon_first _ _ _ _ _ (ix3 ⟨g.val / 2, by omega⟩ p ⟨256 * n.val + c.val, by omega⟩) hy).trans ?_
    refine (odd_apply v ⟨g.val / 2, by omega⟩ p ⟨256 * n.val + c.val, by omega⟩).trans ?_
    exact congrArg v (by congr 1; exact Fin.ext (by show 2 * (g.val / 2) + 1 = g.val; omega))

/-- A dequantized weight row of a chunk. -/
def wrow (W : Fin 56 → Vec Ideal S64x256 .i8) (sv zv : Fin 56 → Fin 256 → EReal) (k : Fin 28) (l : Fin 256) (c : Fin 256) : EReal :=
  (nib (W ⟨2 * k.val + l.val / 128, by omega⟩ (ix2 ⟨l.val % 128 / 2, by omega⟩ c)) (l.val % 2)
    - zv ⟨2 * k.val + l.val / 128, by omega⟩ c) * sv ⟨2 * k.val + l.val / 128, by omega⟩ c

/-- The running sum after `n` chunks, read at an index. -/
theorem accum_apply (X : Fin 28 → Vec Ideal S128x256 .bf16) (S Z : Fin 56 → Vec Ideal S1x2x256 .bf16) (W : Fin 56 → Vec Ideal S64x256 .i8)
    (sv zv : Fin 56 → Fin 256 → EReal) (hS : ∀ g p c, S g (ix3 0 p c) = sv g c) (hZ : ∀ g p c, Z g (ix3 0 p c) = zv g c)
    (r : Fin 128) (c : Fin 256) : ∀ (n : ℕ) (h : n ≤ 28),
    accum X S Z W n h (ix2 r c)
      = (∑ k : Fin n, ∑ l : Fin 256, (X ⟨k.val, by omega⟩ (ix2 r l) : EReal) * wrow W sv zv ⟨k.val, by omega⟩ l c : EReal)
  | 0, _ => by
    show k0_pay162 (F := Ideal) (ix2 r c) = _
    pointwise [k0_pay162]
    simp
  | n + 1, h => by
    refine (step_apply _ _ _ _ _ _ r c (fun p c => (hS _ p c).trans (hS _ 0 c).symm) (fun p c => (hZ _ p c).trans (hZ _ 0 c).symm)
      (fun l => wrow W sv zv ⟨n, h⟩ l c) ?_ ?_).trans ?_
    · intro l hl
      rw [tile1_apply _ _ _ _ _ (fun p c => (hS _ p c).trans (hS _ 0 c).symm) (fun p c => (hZ _ p c).trans (hZ _ 0 c).symm)]
      have e1 : l.val / 128 = 0 := by omega
      have e2 : l.val % 128 = l.val := by omega
      simp only [wrow, hS, hZ, e1, e2, Nat.add_zero]
    · intro l hl
      have e1 : l.val / 128 = 1 := by omega
      have e2 : l.val % 128 = l.val - 128 := by omega
      have e3 : l.val % 2 = (l.val - 128) % 2 := by omega
      simp only [wrow, hS, hZ, e1, e2, e3]
    · rw [accum_apply X S Z W sv zv hS hZ r c n (Nat.le_of_succ_le h)]
      exact (Fin.sum_univ_castSucc (fun k : Fin (n + 1) => ∑ l : Fin 256, (X ⟨k.val, by omega⟩ (ix2 r l) : EReal) * wrow W sv zv ⟨k.val, by omega⟩ l c)).symm

end Cert.KernelIdeal.Weights
-- ==== Proof.Ideal.Blocks.lean ====
/- What the lists of pieces the body stores read as, at an index: the chunks are the rotated activations, the two halves
   are a block of the product. -/
module

public import proofs.«01_k».proof.Proof.Ideal.Weights
public import Idealize.ShloMosaic.Lib.Pipeline.Value

@[expose] public section

set_option backward.proofsInPublic true
set_option maxRecDepth 16384

noncomputable section

namespace Cert.KernelIdeal.Blocks

open Idealize.ShloMosaic Cert.KernelIdeal Cert.KernelIdeal.Gen Cert.KernelIdeal.Tiles Cert.KernelIdeal.Pieces Cert.KernelIdeal.Weights Cert.Closed

/-! ## Loads -/

/-- A load through a box from a buffer that holds `X` reads `X` at the box's index. -/
theorem load_apply {S : Shape} {e : EltTy} (arg : Memref sig .tc .vmem S e) (harg : arg.IsWhole) (X : S.Idx → Elt Ideal e)
    (r : Rect S) (j : r.shape.Idx) : View.readAt (Elt Ideal) arg.view r.toLoadRect (harg.unread X) j = X (r.emb j) := by
  rw [View.readAt_eq_ld, harg.read_unread]
  rfl

/-- A chunk of columns. -/
theorem col_apply (arg : Memref sig .tc .vmem S128x7168 .bf16) (harg : arg.IsWhole) (X : Vec Ideal S128x7168 .bf16) (k : Fin 28)
    (i : Fin 128) (l : Fin 256) : View.readAt (Elt Ideal) arg.view (colBox k).toLoadRect (harg.unread X) (ix2 i l)
      = X (ix2 i ⟨256 * k.val + l.val, by omega⟩) := by
  refine (load_apply arg harg X (colBox k) (ix2 i l)).trans (congrArg X ?_)
  funext a; apply Fin.ext
  match a with
  | ⟨0, _⟩ => show 0 + 1 * i.val = i.val; omega
  | ⟨1, _⟩ => show 256 * k.val + 1 * l.val = 256 * k.val + l.val; omega

/-- A chunk of rows of a factor. -/
theorem fac_apply (arg : Memref sig .tc .vmem S2x7168x32 .bf16) (harg : arg.IsWhole) (X : Vec Ideal S2x7168x32 .bf16) (f : Fin 2)
    (k : Fin 28) (r : Fin 256) (j : Fin 32) : View.readAt (Elt Ideal) arg.view (facBox f k).toLoadRect (harg.unread X) (ix3 0 r j)
      = X (ix3 f ⟨256 * k.val + r.val, by omega⟩ j) := by
  refine (load_apply arg harg X (facBox f k) (ix3 0 r j)).trans (congrArg X ?_)
  funext a; apply Fin.ext
  match a with
  | ⟨0, _⟩ => show f.val + 1 * 0 = f.val; omega
  | ⟨1, _⟩ => show 256 * k.val + 1 * r.val = 256 * k.val + r.val; omega
  | ⟨2, _⟩ => show 0 + 1 * j.val = j.val; omega

/-- Half a group of packed rows. -/
theorem packed_apply (arg : Memref sig .tc .vmem S3584x512 .i8) (harg : arg.IsWhole) (X : Vec Ideal S3584x512 .i8) (n : Fin 2)
    (g : Fin 56) (p : Fin 64) (c : Fin 256) : View.readAt (Elt Ideal) arg.view (wBox n g).toLoadRect (harg.unread X) (ix2 p c)
      = X (ix2 ⟨64 * g.val + p.val, by omega⟩ ⟨256 * n.val + c.val, by omega⟩) := by
  refine (load_apply arg harg X (wBox n g) (ix2 p c)).trans (congrArg X ?_)
  funext a; apply Fin.ext
  match a with
  | ⟨0, _⟩ => show 64 * g.val + 1 * p.val = 64 * g.val + p.val; omega
  | ⟨1, _⟩ => show 256 * n.val + 1 * c.val = 256 * n.val + c.val; omega

/-- Half of the output scale. -/
theorem out_apply (arg : Memref sig .tc .vmem S1x512 .f32) (harg : arg.IsWhole) (X : Vec Ideal S1x512 .f32) (n : Fin 2)
    (c : Fin 256) : View.readAt (Elt Ideal) arg.view (oBox n).toLoadRect (harg.unread X) (ix2 0 c)
      = X (ix2 0 ⟨256 * n.val + c.val, by omega⟩) := by
  refine (load_apply arg harg X (oBox n) (ix2 0 c)).trans (congrArg X ?_)
  funext a; apply Fin.ext
  match a with
  | ⟨0, _⟩ => show 0 + 1 * 0 = 0; omega
  | ⟨1, _⟩ => show 256 * n.val + 1 * c.val = 256 * n.val + c.val; omega

/-- The whole block of scales or zeros. -/
theorem group_load (arg : Memref sig .tc .vmem S56x512 .bf16) (harg : arg.IsWhole) (X : Vec Ideal S56x512 .bf16) (g : Fin 56)
    (q : Fin 512) : View.readAt (Elt Ideal) arg.view (Rect.unit ![0, 0] S56x512.size inb_S56x512_S56x512_0_0).toLoadRect (harg.unread X) (ix2 g q)
      = X (ix2 g q) := by
  refine (load_apply arg harg X (Rect.unit ![0, 0] S56x512.size inb_S56x512_S56x512_0_0) (ix2 g q)).trans (congrArg X ?_)
  funext a; apply Fin.ext
  match a with
  | ⟨0, _⟩ => show 0 + 1 * g.val = g.val; omega
  | ⟨1, _⟩ => show 0 + 1 * q.val = q.val; omega

/-! ## The rotated activations -/

/-- A block of activations as a matrix. -/
abbrev mat (x : Vec Ideal S128x7168 .bf16) : Fin 128 → Fin 7168 → EReal := fun i n => x (ix2 i n)

/-- A block of factors by rows. -/
abbrev fac (b : Vec Ideal S2x7168x32 .bf16) : Fin 2 → Fin 7168 → Fin 32 → EReal := fun f r j => b (ix3 f r j)

/-- The rotated activations as contents of a buffer. -/
def rotBuf (x : Vec Ideal S128x7168 .bf16) (b : Vec Ideal S2x7168x32 .bf16) : Vec Ideal S128x7168 .bf16 :=
  fun y => rot (mat x) (fac b) (y 0) (y 1)

section
variable (x0 : Vec Ideal S128x7168 .bf16) (x1 : Vec Ideal S2x7168x32 .bf16) (arg1 : Memref sig .tc .vmem S128x7168 .bf16) (harg1 : arg1.IsWhole)
    (arg2 : Memref sig .tc .vmem S2x7168x32 .bf16) (harg2 : arg2.IsWhole)

/-- Chunk `k` of the butterfly is the rotated activations' columns 256 k to 256 k + 255. -/
theorem chunk_eq (k : Fin 28) (i : Fin 128) (l : Fin 256) :
    bstep (View.readAt (Elt Ideal) arg2.view (facBox 0 k).toLoadRect (harg2.unread x1))
      (View.readAt (Elt Ideal) arg2.view (facBox 1 k).toLoadRect (harg2.unread x1))
      (View.readAt (Elt Ideal) arg1.view (colBox k).toLoadRect (harg1.unread x0)) (ix2 i l)
      = rot (mat x0) (fac x1) i ⟨256 * k.val + l.val, by omega⟩ := by
  unfold bstep
  rw [chunk_apply]
  unfold rot first
  refine Finset.sum_congr rfl fun j _ => ?_
  have hk := k.isLt
  have hl := l.isLt
  have hj := j.isLt
  have g1 : (256 * k.val + l.val) / 64 = 4 * k.val + l.val / 64 := by omega
  have g2 : (256 * k.val + l.val) % 2 = l.val % 2 := by omega
  have g3 : (256 * k.val + l.val) % 64 = l.val % 64 := by omega
  have g4 : (64 * (4 * k.val + l.val / 64) + 2 * j.val + l.val % 2) / 32 = 8 * k.val + (l.val / 64 * 2 + j.val / 16) := by omega
  have g5 : (64 * (4 * k.val + l.val / 64) + 2 * j.val + l.val % 2) % 32 = (j.val * 2 + l.val % 2) % 32 := by omega
  refine congrArg₂ (fun p q : EReal => p * q) (Finset.sum_congr rfl fun j' _ => ?_) ?_
  · rw [col_apply, fac_apply]
    refine congrArg₂ (fun p q : EReal => p * q) (congrArg (mat x0 i) (Fin.ext ?_)) (congrArg₂ (fac x1 0) (Fin.ext ?_) (Fin.ext ?_))
    · simp only [g1, g2, g4]; omega
    · simp only [g1, g2, g4]; omega
    · simp only [g1, g2, g5]
  · rw [fac_apply]
    refine congrArg₂ (fac x1 1) (Fin.ext ?_) (Fin.ext ?_)
    · simp only [g1, g2]; omega
    · simp only [g3]

/-- Every column lies in its chunk. -/
theorem mem_colBox (y : S128x7168.Idx) : y ∈ (colBox ⟨(y 1).val / 256, by have : (y 1).val < 7168 := (y 1).isLt; omega⟩).set := by
  have h0 : (y 0).val < 128 := (y 0).isLt
  have h1 : (y 1).val < 7168 := (y 1).isLt
  rw [Rect.mem_set_unit]
  intro a
  match a with
  | ⟨0, _⟩ => show 0 ≤ (y 0).val ∧ (y 0).val < 0 + 128; omega
  | ⟨1, _⟩ => show 256 * ((y 1).val / 256) ≤ (y 1).val ∧ (y 1).val < 256 * ((y 1).val / 256) + 256; omega

/-- An index of a chunk's box is its row and its column within the chunk. -/
theorem colBox_emb (k : Fin 28) (i : Fin 128) (l : Fin 256) :
    (colBox k).emb (ix2 i l) = ix2 i ⟨256 * k.val + l.val, by omega⟩ := by
  funext a; apply Fin.ext
  match a with
  | ⟨0, _⟩ => show 0 + 1 * i.val = i.val; omega
  | ⟨1, _⟩ => show 256 * k.val + 1 * l.val = 256 * k.val + l.val; omega

/-- The chunks the first grid point stores make up the rotated activations. -/
theorem chunks_eq (y : S128x7168.Idx) : View.canon (chunks x0 x1 arg1 harg1 arg2 harg2) y = rotBuf x0 x1 y := by
  refine View.canon_apply_of_pieces (rotBuf x0 x1) _ ?_ y ?_
  · intro p hp
    obtain ⟨k, -, rfl⟩ := List.mem_map.mp hp
    intro (z : S128x256.Idx)
    rw [eq_ix2 z]
    refine (chunk_eq x0 x1 arg1 harg1 arg2 harg2 k (z 0) (z 1)).trans ?_
    exact (congrArg (rotBuf x0 x1) (colBox_emb k (z 0) (z 1))).symm
  · exact ⟨_, List.mem_map.mpr ⟨_, List.mem_reverse.mpr (List.mem_finRange _), rfl⟩, mem_colBox y⟩

/-- A cast to the same shape changes no entry. -/
theorem cast_self (v : FVec Ideal S128x256 .bf16) (i : Fin 128) (l : Fin 256) :
    shapeCast S128x256 v shapeCasts_S128x256_S128x256 (ix2 i l) = v (ix2 i l) := by
  pointwise []

/-- So do the chunks it carries. -/
theorem carried_eq (y : S128x7168.Idx) : View.canon (carried x0 x1 arg1 harg1 arg2 harg2) y = rotBuf x0 x1 y := by
  refine View.canon_apply_of_pieces (rotBuf x0 x1) _ ?_ y ?_
  · intro p hp
    obtain ⟨k, -, rfl⟩ := List.mem_map.mp hp
    intro (z : S128x256.Idx)
    rw [eq_ix2 z]
    refine Eq.trans ?_ ((chunk_eq x0 x1 arg1 harg1 arg2 harg2 k (z 0) (z 1)).trans (congrArg (rotBuf x0 x1) (colBox_emb k (z 0) (z 1))).symm)
    exact cast_self (bstep (View.readAt (Elt Ideal) arg2.view (facBox 0 k).toLoadRect (harg2.unread x1))
      (View.readAt (Elt Ideal) arg2.view (facBox 1 k).toLoadRect (harg2.unread x1))
      (View.readAt (Elt Ideal) arg1.view (colBox k).toLoadRect (harg1.unread x0))) (z 0) (z 1)
  · exact ⟨_, List.mem_map.mpr ⟨_, List.mem_reverse.mpr (List.mem_finRange _), rfl⟩, mem_colBox y⟩

/-- A load of a chunk from the carried scratch reads the rotated activations. -/
theorem carried_load (arg9 : Memref sig .tc .vmem S128x7168 .bf16) (k : Fin 28) (i : Fin 128) (l : Fin 256) :
    arg9.view.readCov (carried x0 x1 arg1 harg1 arg2 harg2) (colBox k).toLoadRect (ix2 i l)
      = rot (mat x0) (fac x1) i ⟨256 * k.val + l.val, by omega⟩ := by
  rw [View.readCov_eq_canon']
  refine (carried_eq x0 x1 arg1 harg1 arg2 harg2 ((colBox k).emb (ix2 i l))).trans ?_
  exact congrArg (rotBuf x0 x1) (colBox_emb k i l)

end

/-! ## The product -/

section
variable (X : Fin 28 → Vec Ideal S128x256 .bf16) (x2 : Vec Ideal S3584x512 .i8) (x3 x4 : Vec Ideal S56x512 .bf16) (x5 : Vec Ideal S1x512 .f32)
    (arg3 : Memref sig .tc .vmem S3584x512 .i8) (harg3 : arg3.IsWhole) (arg4 : Memref sig .tc .vmem S56x512 .bf16) (harg4 : arg4.IsWhole)
    (arg5 : Memref sig .tc .vmem S56x512 .bf16) (harg5 : arg5.IsWhole) (arg6 : Memref sig .tc .vmem S1x512 .f32) (harg6 : arg6.IsWhole)
    (arg10 arg11 : Memref sig .tc .vmem S64x2x512 .bf16)
    (R : Fin 128 → Fin 7168 → EReal) (w : Fin 3584 → Fin 18432 → BitVec 8) (s z : Fin 56 → Fin 18432 → EReal) (o : Fin 18432 → EReal)
    (t : Fin 36)
    (hX : ∀ k i l, X k (ix2 i l) = R i ⟨256 * k.val + l.val, by omega⟩)
    (hw : ∀ r (q : Fin 512), x2 (ix2 r q) = w r ⟨512 * t.val + q.val, by omega⟩)
    (hs : ∀ g (q : Fin 512), x3 (ix2 g q) = s g ⟨512 * t.val + q.val, by omega⟩)
    (hz : ∀ g (q : Fin 512), x4 (ix2 g q) = z g ⟨512 * t.val + q.val, by omega⟩)
    (ho : ∀ q : Fin 512, x5 (ix2 0 q) = o ⟨512 * t.val + q.val, by omega⟩)

include hX hw hs hz ho in
/-- One half of a block of the product, read at an index. -/
theorem half_eq (n : Fin 2) (i : Fin 128) (c : Fin 256) :
    ypiece X
      (fun g => arg10.view.readCov (groupRows (View.readAt (Elt Ideal) arg4.view (Rect.unit ![0, 0] S56x512.size inb_S56x512_S56x512_0_0).toLoadRect (harg4.unread x3))) (sBox n g).toLoadRect)
      (fun g => arg11.view.readCov (groupRows (View.readAt (Elt Ideal) arg5.view (Rect.unit ![0, 0] S56x512.size inb_S56x512_S56x512_0_0).toLoadRect (harg5.unread x4))) (sBox n g).toLoadRect)
      (fun g => View.readAt (Elt Ideal) arg3.view (wBox n g).toLoadRect (harg3.unread x2))
      (View.readAt (Elt Ideal) arg6.view (oBox n).toLoadRect (harg6.unread x5)) (ix2 i c)
      = prod R w s z o i ⟨512 * t.val + (256 * n.val + c.val), by omega⟩ := by
  unfold ypiece
  rw [scaled_apply]
  rw [accum_apply _ _ _ _ (fun g c => s g ⟨512 * t.val + (256 * n.val + c.val), by omega⟩)
    (fun g c => z g ⟨512 * t.val + (256 * n.val + c.val), by omega⟩)
    (fun g p c => (group_apply arg10 _ n g p c).trans ((group_load arg4 harg4 x3 _ _).trans (hs _ _)))
    (fun g p c => (group_apply arg11 _ n g p c).trans ((group_load arg5 harg5 x4 _ _).trans (hz _ _)))]
  unfold prod
  rw [← sum_chunks]
  refine congrArg₂ (fun p q : EReal => p * q) (Finset.sum_congr rfl fun k _ => Finset.sum_congr rfl fun l _ => ?_)
    ((out_apply arg6 harg6 x5 n c).trans (ho _))
  refine congrArg₂ (fun p q : EReal => p * q) (hX k i l) ?_
  unfold wrow weight
  have hk := k.isLt
  have hl := l.isLt
  have g1 : (256 * k.val + l.val) / 128 = 2 * k.val + l.val / 128 := by omega
  have g2 : (256 * k.val + l.val) % 2 = l.val % 2 := by omega
  have g3 : 64 * (2 * k.val + l.val / 128) + l.val % 128 / 2 = (256 * k.val + l.val) / 2 := by omega
  dsimp only
  rw [packed_apply, hw]
  simp only [g1, g2, g3]

/-- Every column of a block lies in its half. -/
theorem mem_yBox (y : S128x512.Idx) : y ∈ (yBox ⟨(y 1).val / 256, by have : (y 1).val < 512 := (y 1).isLt; omega⟩).set := by
  have h0 : (y 0).val < 128 := (y 0).isLt
  have h1 : (y 1).val < 512 := (y 1).isLt
  rw [Rect.mem_set_unit]
  intro a
  match a with
  | ⟨0, _⟩ => show 0 ≤ (y 0).val ∧ (y 0).val < 0 + 128; omega
  | ⟨1, _⟩ => show 256 * ((y 1).val / 256) ≤ (y 1).val ∧ (y 1).val < 256 * ((y 1).val / 256) + 256; omega

/-- An index of a half's box is its row and its column within the half. -/
theorem yBox_emb (n : Fin 2) (i : Fin 128) (c : Fin 256) :
    (yBox n).emb (ix2 i c) = ix2 i ⟨256 * n.val + c.val, by omega⟩ := by
  funext a; apply Fin.ext
  match a with
  | ⟨0, _⟩ => show 0 + 1 * i.val = i.val; omega
  | ⟨1, _⟩ => show 256 * n.val + 1 * c.val = 256 * n.val + c.val; omega

/-- A block of the product as contents of a buffer. -/
def prodBuf (R : Fin 128 → Fin 7168 → EReal) (w : Fin 3584 → Fin 18432 → BitVec 8) (s z : Fin 56 → Fin 18432 → EReal)
    (o : Fin 18432 → EReal) (t : Fin 36) : Vec Ideal S128x512 .bf16 :=
  fun y => prod R w s z o (y 0) ⟨512 * t.val + (y 1).val, by have : (y 1).val < 512 := (y 1).isLt; omega⟩

include hX hw hs hz ho in
/-- The two halves a grid point stores make up its block of the product. -/
theorem halves_eq (y : S128x512.Idx) :
    View.canon (yparts X x2 x3 x4 x5 arg3 harg3 arg4 harg4 arg5 harg5 arg6 harg6 arg10 arg11) y = prodBuf R w s z o t y := by
  refine View.canon_apply_of_pieces (prodBuf R w s z o t) _ ?_ y ?_
  · intro p hp
    obtain ⟨n, -, rfl⟩ := List.mem_map.mp hp
    intro (v : S128x256.Idx)
    rw [eq_ix2 v]
    refine (half_eq X x2 x3 x4 x5 arg3 harg3 arg4 harg4 arg5 harg5 arg6 harg6 arg10 arg11 R w s z o t hX hw hs hz ho n (v 0) (v 1)).trans ?_
    exact (congrArg (prodBuf R w s z o t) (yBox_emb n (v 0) (v 1))).symm
  · refine ⟨_, List.mem_map.mpr ⟨_, ?_, rfl⟩, mem_yBox y⟩
    generalize (⟨(y 1).val / 256, _⟩ : Fin 2) = n
    revert n
    decide

end

end Cert.KernelIdeal.Blocks

end
-- ==== Proof.Ideal.Entry.lean ====
/- The windows' blocks of the idealized kernel, read at an index off the argument arrays as launched. -/
module

public import proofs.«01_k».proof.Proof.Ideal.Frame
public import Idealize.ShloMosaic.Lib.Pointwise
public import Idealize.ShloMosaic.Lib.Claim

@[expose] public section

set_option maxRecDepth 16384

noncomputable section

namespace Cert.KernelIdeal.Entry

open Cert.KernelIdeal Cert.KernelIdeal.Gen Idealize.ShloMosaic Idealize.ShloMosaic.TcCoe Idealize.SL.Sem

variable (m : (ℓ : Loc nD τ sig) → Buf (Elt Ideal) ℓ)

/-- The block indices of the six input windows: the activations and the factors stay, the other four move along the
    columns with the grid point. -/
theorem index_eq : ∀ t : Fin cfg0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- There are 36 grid points. -/
theorem point_lt (t : Fin cfg0.N) : t.val < 36 := lt_of_lt_of_eq t.isLt N_0

/-- The activations' block is the whole array, its leading axis of one dropped. -/
theorem act_apply (c : Dev nD) (t : Fin cfg0.N) (i : Fin 128) (n : Fin 7168) :
    iblk m c 0 t (ix2 i n) = m ((c : Thread nD τ).loc main_arg0) (ix3 0 i n) := by
  obtain ⟨⟨e0, e1⟩, -⟩ := index_eq t
  have he : ((cfg0.win 0).blk t).view.emb (ix2 i n) = ix2 i n := by
    funext a; apply Fin.ext
    match a with
    | ⟨0, _⟩ => show win0_0.index t (0 : Fin 2) * 128 + 1 * i.val = i.val; omega
    | ⟨1, _⟩ => show win0_0.index t (1 : Fin 2) * 7168 + 1 * n.val = n.val; omega
  show V m c main_v0 (((cfg0.win 0).blk t).view.emb (ix2 i n)) = _
  rw [he]
  entry_read
  pointwise []

/-- The factors' block is the whole array, the 224 blocks of 32 rows merged into 7168 rows. -/
theorem fac_apply (c : Dev nD) (t : Fin cfg0.N) (f : Fin 2) (r : Fin 7168) (j : Fin 32) :
    iblk m c 1 t (ix3 f r j)
      = m ((c : Thread nD τ).loc main_arg1) (ix4 f ⟨r.val / 32, by omega⟩ ⟨r.val % 32, by omega⟩ j) := by
  obtain ⟨-, ⟨e0, e1, e2⟩, -⟩ := index_eq t
  have he : ((cfg0.win 1).blk t).view.emb (ix3 f r j) = ix3 f r j := by
    funext a; apply Fin.ext
    match a with
    | ⟨0, _⟩ => show win0_1.index t (0 : Fin 3) * 2 + 1 * f.val = f.val; omega
    | ⟨1, _⟩ => show win0_1.index t (1 : Fin 3) * 7168 + 1 * r.val = r.val; omega
    | ⟨2, _⟩ => show win0_1.index t (2 : Fin 3) * 32 + 1 * j.val = j.val; omega
  show V m c main_v1 (((cfg0.win 1).blk t).view.emb (ix3 f r j)) = _
  rw [he]
  entry_read
  pointwise []

/-- The packed weight's block is 512 columns of the array. -/
theorem packed_apply (c : Dev nD) (t : Fin cfg0.N) (r : Fin 3584) (q : Fin 512) :
    iblk m c 2 t (ix2 r q)
      = m ((c : Thread nD τ).loc main_arg2) (ix2 r ⟨512 * t.val + q.val, by have := point_lt t; omega⟩) := by
  obtain ⟨-, -, ⟨e0, e1⟩, -⟩ := index_eq t
  show V m c main_arg2 (((cfg0.win 2).blk t).view.emb (ix2 r q)) = _
  rw [V_main_arg2]
  refine congrArg (m ((c : Thread nD τ).loc main_arg2)) ?_
  funext a; apply Fin.ext
  match a with
  | ⟨0, _⟩ => show win0_2.index t (0 : Fin 2) * 3584 + 1 * r.val = r.val; omega
  | ⟨1, _⟩ => show win0_2.index t (1 : Fin 2) * 512 + 1 * q.val = 512 * t.val + q.val; omega

/-- The scales' block is 512 columns of the array. -/
theorem scale_apply (c : Dev nD) (t : Fin cfg0.N) (r : Fin 56) (q : Fin 512) :
    iblk m c 3 t (ix2 r q)
      = m ((c : Thread nD τ).loc main_arg3) (ix2 r ⟨512 * t.val + q.val, by have := point_lt t; omega⟩) := by
  obtain ⟨-, -, -, ⟨e0, e1⟩, -⟩ := index_eq t
  show V m c main_arg3 (((cfg0.win 3).blk t).view.emb (ix2 r q)) = _
  rw [V_main_arg3]
  refine congrArg (m ((c : Thread nD τ).loc main_arg3)) ?_
  funext a; apply Fin.ext
  match a with
  | ⟨0, _⟩ => show win0_3.index t (0 : Fin 2) * 56 + 1 * r.val = r.val; omega
  | ⟨1, _⟩ => show win0_3.index t (1 : Fin 2) * 512 + 1 * q.val = 512 * t.val + q.val; omega

/-- The zeros' block is 512 columns of the array. -/
theorem zero_apply (c : Dev nD) (t : Fin cfg0.N) (r : Fin 56) (q : Fin 512) :
    iblk m c 4 t (ix2 r q)
      = m ((c : Thread nD τ).loc main_arg4) (ix2 r ⟨512 * t.val + q.val, by have := point_lt t; omega⟩) := by
  obtain ⟨-, -, -, -, ⟨e0, e1⟩, -⟩ := index_eq t
  show V m c main_arg4 (((cfg0.win 4).blk t).view.emb (ix2 r q)) = _
  rw [V_main_arg4]
  refine congrArg (m ((c : Thread nD τ).loc main_arg4)) ?_
  funext a; apply Fin.ext
  match a with
  | ⟨0, _⟩ => show win0_4.index t (0 : Fin 2) * 56 + 1 * r.val = r.val; omega
  | ⟨1, _⟩ => show win0_4.index t (1 : Fin 2) * 512 + 1 * q.val = 512 * t.val + q.val; omega

/-- The output scale's block is 512 entries of the array, as one row. -/
theorem out_apply (c : Dev nD) (t : Fin cfg0.N) (q : Fin 512) :
    iblk m c 5 t (ix2 0 q)
      = m ((c : Thread nD τ).loc main_arg5) (ix1 ⟨512 * t.val + q.val, by have := point_lt t; omega⟩) := by
  obtain ⟨-, -, -, -, -, ⟨e0, e1⟩⟩ := index_eq t
  have he : ((cfg0.win 5).blk t).view.emb (ix2 0 q) = ix2 0 ⟨512 * t.val + q.val, by have := point_lt t; omega⟩ := by
    funext a; apply Fin.ext
    match a with
    | ⟨0, _⟩ => show win0_5.index t (0 : Fin 2) * 1 + 1 * 0 = 0; omega
    | ⟨1, _⟩ => show win0_5.index t (1 : Fin 2) * 512 + 1 * q.val = 512 * t.val + q.val; omega
  show V m c main_v2 (((cfg0.win 5).blk t).view.emb (ix2 0 q)) = _
  rw [he]
  entry_read
  pointwise []

end Cert.KernelIdeal.Entry

end
-- ==== Proof.Ideal.Point.lean ====
/- The idealized kernel's two result arrays in closed form: the rotated activations and their product with the
   dequantized weight. -/
module

public import proofs.«01_k».proof.Proof.Ideal.Blocks
public import proofs.«01_k».proof.Proof.Ideal.Entry
public import proofs.«01_k».proof.Proof.Ideal.Value

@[expose] public section

set_option backward.proofsInPublic true
set_option maxRecDepth 16384

noncomputable section

namespace Cert.KernelIdeal.Point

open Idealize.ShloMosaic Idealize.ShloMosaic.TcCoe Idealize.SL.Sem Cert.KernelIdeal Cert.KernelIdeal.Gen Cert.KernelIdeal.Pieces Cert.KernelIdeal.Blocks Cert.KernelIdeal.Entry Cert.KernelIdeal.Value Cert.Closed

/-! ## What each case of the body leaves -/

section
variable (c : Dev nD) (i : grid0.Coords) (arg1 : Memref sig .tc .vmem S128x7168 .bf16) (harg1 : arg1.IsWhole) (arg2 : Memref sig .tc .vmem S2x7168x32 .bf16) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .bf16) (harg5 : arg5.IsWhole) (arg6 : Memref sig .tc .vmem S1x512 .f32) (harg6 : arg6.IsWhole) (arg7 : Memref sig .tc .vmem S128x512 .bf16) (harg7 : arg7.IsWhole) (arg8 : Memref sig .tc .vmem S128x7168 .bf16) (harg8 : arg8.IsWhole) (arg9 : Memref sig .tc .vmem S128x7168 .bf16) (harg9 : arg9.IsWhole) (arg10 : Memref sig .tc .vmem S64x2x512 .bf16) (harg10 : arg10.IsWhole) (arg11 : Memref sig .tc .vmem S64x2x512 .bf16) (harg11 : arg11.IsWhole)
    (x0 : Vec Ideal S128x7168 .bf16) (x1 : Vec Ideal S2x7168x32 .bf16) (x2 : Vec Ideal S3584x512 .i8) (x3 : Vec Ideal S56x512 .bf16) (x4 : Vec Ideal S56x512 .bf16) (x5 : Vec Ideal S1x512 .f32)

/-- The first grid point leaves the rotated activations in the second output. -/
theorem rotated_eq (hc0 : cond0_0 i) : out0_A_7 c i arg1 harg1 arg2 harg2 arg3 harg3 arg4 harg4 arg5 harg5 arg6 harg6 arg7 harg7 arg8 harg8 arg9 harg9 arg10 harg10 arg11 harg11 hc0 x0 x1 x2 x3 x4 x5 = rotBuf x0 x1 := by
  unfold out0_A_7
  rw [View.read_writes_junk_eq_canon, rotated_A c i arg1 harg1 arg2 harg2 arg3 harg3 arg4 harg4 arg5 harg5 arg6 harg6 arg7 harg7 arg8 harg8 arg9 harg9 arg10 harg10 arg11 harg11 x0 x1 x2 x3 x4 x5 hc0]
  exact funext fun y => chunks_eq x0 x1 arg1 harg1 arg2 harg2 y

/-- It carries them to the other points. -/
theorem scratch_eq (hc0 : cond0_0 i) : sout0_A_0 c i arg1 harg1 arg2 harg2 arg3 harg3 arg4 harg4 arg5 harg5 arg6 harg6 arg7 harg7 arg8 harg8 arg9 harg9 arg10 harg10 arg11 harg11 hc0 x0 x1 x2 x3 x4 x5 = rotBuf x0 x1 := by
  unfold sout0_A_0
  rw [View.read_writes_junk_eq_canon, carried_A c i arg1 harg1 arg2 harg2 arg3 harg3 arg4 harg4 arg5 harg5 arg6 harg6 arg7 harg7 arg8 harg8 arg9 harg9 arg10 harg10 arg11 harg11 x0 x1 x2 x3 x4 x5 hc0]
  exact funext fun y => carried_eq x0 x1 arg1 harg1 arg2 harg2 y

variable (w : Fin 3584 → Fin 18432 → BitVec 8) (s z : Fin 56 → Fin 18432 → EReal) (o : Fin 18432 → EReal) (t : Fin 36)
    (hw : ∀ r (q : Fin 512), x2 (ix2 r q) = w r ⟨512 * t.val + q.val, by omega⟩)
    (hs : ∀ g (q : Fin 512), x3 (ix2 g q) = s g ⟨512 * t.val + q.val, by omega⟩)
    (hz : ∀ g (q : Fin 512), x4 (ix2 g q) = z g ⟨512 * t.val + q.val, by omega⟩)
    (ho : ∀ q : Fin 512, x5 (ix2 0 q) = o ⟨512 * t.val + q.val, by omega⟩)

include hw hs hz ho in
/-- The first grid point leaves its block of the product in the first output. -/
theorem product_first (hc0 : cond0_0 i) : out0_A_6 c i arg1 harg1 arg2 harg2 arg3 harg3 arg4 harg4 arg5 harg5 arg6 harg6 arg7 harg7 arg8 harg8 arg9 harg9 arg10 harg10 arg11 harg11 hc0 x0 x1 x2 x3 x4 x5 = prodBuf (rot (mat x0) (fac x1)) w s z o t := by
  unfold out0_A_6
  rw [View.read_writes_junk_eq_canon, product_A c i arg1 harg1 arg2 harg2 arg3 harg3 arg4 harg4 arg5 harg5 arg6 harg6 arg7 harg7 arg8 harg8 arg9 harg9 arg10 harg10 arg11 harg11 x0 x1 x2 x3 x4 x5 hc0]
  exact funext fun y => halves_eq _ x2 x3 x4 x5 arg3 harg3 arg4 harg4 arg5 harg5 arg6 harg6 arg10 arg11 _ w s z o t
    (fun k r l => carried_load x0 x1 arg1 harg1 arg2 harg2 arg9 k r l) hw hs hz ho y

include hw hs hz ho in
/-- So does every other grid point, from the activations carried to it. -/
theorem product_rest (hc0 : ¬cond0_0 i) (xs0 : Vec Ideal S128x7168 .bf16) (R : Fin 128 → Fin 7168 → EReal)
    (hR : ∀ r n, xs0 (ix2 r n) = R r n) : out0_B_6 c i arg1 harg1 arg2 harg2 arg3 harg3 arg4 harg4 arg5 harg5 arg6 harg6 arg7 harg7 arg8 harg8 arg9 harg9 arg10 harg10 arg11 harg11 hc0 x0 x1 x2 x3 x4 x5 xs0 = prodBuf R w s z o t := by
  unfold out0_B_6
  rw [View.read_writes_junk_eq_canon, product_B c i arg1 harg1 arg2 harg2 arg3 harg3 arg4 harg4 arg5 harg5 arg6 harg6 arg7 harg7 arg8 harg8 arg9 harg9 arg10 harg10 arg11 harg11 x0 x1 x2 x3 x4 x5 hc0 xs0]
  exact funext fun y => halves_eq _ x2 x3 x4 x5 arg3 harg3 arg4 harg4 arg5 harg5 arg6 harg6 arg10 arg11 R w s z o t
    (fun k r l => (col_apply arg9 harg9 xs0 k r l).trans (hR r _)) hw hs hz ho y

end

/-! ## The result arrays -/

variable (m : (ℓ : Loc nD τ sig) → Buf (Elt Ideal) ℓ) (c : Dev nD)

/-- The activations as launched, as a matrix. -/
def actsOf : Fin 128 → Fin 7168 → EReal := fun i n => m ((c : Thread nD τ).loc main_arg0) (ix3 0 i n)

/-- The factors as launched, by rows. -/
def rowsOf : Fin 2 → Fin 7168 → Fin 32 → EReal :=
  fun f r j => m ((c : Thread nD τ).loc main_arg1) (ix4 f ⟨r.val / 32, by omega⟩ ⟨r.val % 32, by omega⟩ j)

/-- The packed weight as launched. -/
def packedOf : Fin 3584 → Fin 18432 → BitVec 8 := fun r n => m ((c : Thread nD τ).loc main_arg2) (ix2 r n)

/-- The scales as launched. -/
def scaleOf : Fin 56 → Fin 18432 → EReal := fun g n => m ((c : Thread nD τ).loc main_arg3) (ix2 g n)

/-- The zeros as launched. -/
def zeroOf : Fin 56 → Fin 18432 → EReal := fun g n => m ((c : Thread nD τ).loc main_arg4) (ix2 g n)

/-- The output scale as launched. -/
def outOf : Fin 18432 → EReal := fun n => m ((c : Thread nD τ).loc main_arg5) (ix1 n)

/-- The rotated activations of the arrays as launched. -/
abbrev rotOf : Fin 128 → Fin 7168 → EReal := rot (actsOf m c) (rowsOf m c)

/-- The blocks of the activations and the factors at a grid point make the same rotated activations. -/
theorem rot_blocks (t : Fin cfg0.N) : rot (mat (iblk m c 0 t)) (fac (iblk m c 1 t)) = rotOf m c := by
  have e0 : mat (iblk m c 0 t) = actsOf m c := funext fun i => funext fun n => Entry.act_apply m c t i n
  have e1 : fac (iblk m c 1 t) = rowsOf m c := funext fun f => funext fun r => funext fun j => Entry.fac_apply m c t f r j
  rw [e0, e1]

/-- The first grid point. -/
abbrev t0 : Fin cfg0.N := ⟨0, lt_of_lt_of_eq (by decide) N_0.symm⟩

/-- After the first grid point the second output holds the rotated activations. -/
theorem second_first (i : Fin 128) (n : Fin 7168) : (outsAt0 m c 0 t0.isLt).2.1 (ix2 i n) = rotOf m c i n := by
  rw [← rot_blocks m c t0]
  show (outsAt0 m c t0.val t0.isLt).2.1 (ix2 i n) = _
  rw [outsAt0_A m c t0 rfl]
  exact congrFun (rotated_eq c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) (iblk m c 0 t0) (iblk m c 1 t0) (iblk m c 2 t0) (iblk m c 3 t0) (iblk m c 4 t0) (iblk m c 5 t0)
    ((hcond0_0 t0).mpr rfl)) (ix2 i n)

/-- The scratch holds them too. -/
theorem scratch_first (i : Fin 128) (n : Fin 7168) : (outsAt0 m c 0 t0.isLt).2.2 (ix2 i n) = rotOf m c i n := by
  rw [← rot_blocks m c t0]
  show (outsAt0 m c t0.val t0.isLt).2.2 (ix2 i n) = _
  rw [outsAt0_A m c t0 rfl]
  exact congrFun (scratch_eq c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) (iblk m c 0 t0) (iblk m c 1 t0) (iblk m c 2 t0) (iblk m c 3 t0) (iblk m c 4 t0) (iblk m c 5 t0)
    ((hcond0_0 t0).mpr rfl)) (ix2 i n)

set_option maxHeartbeats 2000000 in
/-- After every grid point the first output's block holds the point's 512 columns of the product. -/
theorem block_eq (t : Fin cfg0.N) : (outsAt0 m c t.val t.isLt).1
    = prodBuf (rotOf m c) (packedOf m c) (scaleOf m c) (zeroOf m c) (outOf m c) ⟨t.val, point_lt t⟩ := by
  by_cases h0 : t.val % 36 = 0
  · rw [← rot_blocks m c t]
    rw [outsAt0_A m c t h0]
    exact product_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (packedOf m c) (scaleOf m c) (zeroOf m c) (outOf m c) ⟨t.val, point_lt t⟩
      (fun r q => Entry.packed_apply m c t r q) (fun r q => Entry.scale_apply m c t r q) (fun r q => Entry.zero_apply m c t r q)
      (fun q => Entry.out_apply m c t q) ((hcond0_0 t).mpr h0)
  · have hx : ∀ r n, (outsAt0 m c (t.val - 1) (Nat.lt_of_le_of_lt (Nat.sub_le _ _) t.isLt)).2.2 (ix2 r n) = rotOf m c r n :=
      fun r n => (congrFun (carried_scratch m c (t.val - 1) (Nat.lt_of_le_of_lt (Nat.sub_le _ _) t.isLt)) (ix2 r n)).trans (scratch_first m c r n)
    refine (congrArg Prod.fst (outsAt0_B m c t h0)).trans ?_
    generalize (outsAt0 m c (t.val - 1) (Nat.lt_of_le_of_lt (Nat.sub_le _ _) t.isLt)).2.2 = xs at hx ⊢
    exact product_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)
      (packedOf m c) (scaleOf m c) (zeroOf m c) (outOf m c) ⟨t.val, point_lt t⟩
      (fun r q => Entry.packed_apply m c t r q) (fun r q => Entry.scale_apply m c t r q) (fun r q => Entry.zero_apply m c t r q)
      (fun q => Entry.out_apply m c t q) (fun h => h0 ((hcond0_0 t).mp h)) xs (rotOf m c) hx

/-- The second result: the rotated activations. -/
theorem rotated_result (i : Fin 128) (n : Fin 7168) : G7 m c (ix2 i n) = rotOf m c i n := by
  rw [G7_first]
  exact second_first m c i n

/-- The first result: the product. -/
theorem product_result (i : Fin 128) (n : Fin 18432) :
    G6 m c (ix2 i n) = prod (rotOf m c) (packedOf m c) (scaleOf m c) (zeroOf m c) (outOf m c) i n := by
  have hi := i.isLt
  have hn := n.isLt
  have hN : cfg0.N = 36 := N_0
  have hp : pt6Of (ix2 i n) = n.val / 512 := by
    show 36 * (i.val / 128 - 0) + 1 * (n.val / 512 - 0) = _
    omega
  have hlt : n.val / 512 < cfg0.N := by omega
  have hl : loc6Of (ix2 i n) = ix2 i ⟨n.val % 512, Nat.mod_lt _ (by decide)⟩ := by
    funext a; apply Fin.ext
    match a with
    | ⟨0, _⟩ => show i.val % 128 = i.val; omega
    | ⟨1, _⟩ => rfl
  unfold G6
  rw [dif_pos (lt_of_eq_of_lt hp hlt), outs_congr m c _ _ _ hlt hp, hl, block_eq m c ⟨n.val / 512, hlt⟩]
  refine congrArg (prod (rotOf m c) (packedOf m c) (scaleOf m c) (zeroOf m c) (outOf m c) i) (Fin.ext ?_)
  show 512 * (n.val / 512) + n.val % 512 = n.val
  omega

end Cert.KernelIdeal.Point

end
-- ==== Proof.Reference.lean ====
/- The reference's two results in closed form: the rotated activations and the product with the dequantized weight. -/
module

public import proofs.«01_k».proof.Proof.Gen.ReferenceIdeal.Read
public import proofs.«01_k».proof.Proof.Closed

@[expose] public section

set_option maxRecDepth 16384

noncomputable section

namespace Cert.ReferenceIdeal.Closed

open Idealize.ShloMosaic Cert.ReferenceIdeal Cert.ReferenceIdeal.Gen Cert.ReferenceIdeal.Read Cert.Closed

/-- The activations as a matrix. -/
abbrev acts (x : Vec Ideal S1x128x7168 .bf16) : Fin 128 → Fin 7168 → EReal := fun i n => x (ix3 0 i n)

/-- The factors by rows. -/
abbrev rows (b : Vec Ideal S2x224x32x32 .bf16) : Fin 2 → Fin 7168 → Fin 32 → EReal :=
  fun f r j => b (ix4 f ⟨r.val / 32, by omega⟩ ⟨r.val % 32, by omega⟩ j)

/-- An entry of the factors is the entry of the row it lies in. -/
theorem rows_eq (b : Vec Ideal S2x224x32x32 .bf16) (f : Fin 2) (B : Fin 224) (j k : Fin 32) (r : Fin 7168) (k' : Fin 32)
    (hr : r.val = 32 * B.val + j.val) (hk : k'.val = k.val) : b (ix4 f B j k) = rows b f r k' := by
  have e1 : B = ⟨r.val / 32, by omega⟩ := Fin.ext (by show B.val = r.val / 32; omega)
  have e2 : j = ⟨r.val % 32, by omega⟩ := Fin.ext (by show j.val = r.val % 32; omega)
  obtain rfl : k' = k := Fin.ext hk
  exact congrArg₂ (fun p q => b (ix4 f p q k')) e1 e2

/-- The activations after the first factor, read at an index. -/
theorem first_apply (x : Vec Ideal S1x128x7168 .bf16) (b : Vec Ideal S2x224x32x32 .bf16) (i : Fin 128) (n : Fin 7168) :
    val_main_v7 x b (ix3 0 i n) = first (acts x) (rows b) i n := by
  pointwise [val_main_v0, val_main_v1, val_main_v2, val_main_v3, val_main_v4, val_main_v5, val_main_v6, val_main_v7]
  unfold first
  refine Finset.sum_congr rfl fun j _ => (mul_comm _ _).trans ?_
  refine congrArg₂ (fun p q : EReal => p * q) (congrArg (acts x i) (Fin.ext ?_)) (rows_eq b 0 _ _ _ _ _ ?_ ?_)
  · show n.val / 32 * 32 + j.val = 32 * (n.val / 32) + j.val; omega
  · show 32 * (n.val / 32) + j.val = _; rfl
  · rfl

/-- The activations after both factors, read at an index. -/
theorem second_apply (x : Vec Ideal S1x128x7168 .bf16) (b : Vec Ideal S2x224x32x32 .bf16) (i : Fin 128) (n : Fin 7168) :
    val_main_v15 x b (ix3 0 i n) = rot (acts x) (rows b) i n := by
  pointwise [val_main_v15, val_main_v14, val_main_v13, val_main_v12, val_main_v11, val_main_v10, val_main_v9, val_main_v8, first_apply]
  unfold rot
  refine Finset.sum_congr rfl fun j _ => (mul_comm _ _).trans ?_
  refine congrArg₂ (fun p q : EReal => p * q) (congrArg (first (acts x) (rows b) i) (Fin.ext ?_)) (rows_eq b 1 _ _ _ _ _ ?_ ?_)
  · show n.val / 64 * 64 + j.val * 2 + n.val % 2 = 64 * (n.val / 64) + 2 * j.val + n.val % 2; omega
  · show 32 * (2 * (n.val / 64) + n.val % 2) + j.val = 32 * (n.val / 64 * 2 + n.val % 2) + j.val; omega
  · show n.val % 64 / 2 = n.val / 2 % 32; omega

/-- The second result, read at an index. -/
theorem rot_apply (x : Vec Ideal S1x128x7168 .bf16) (b : Vec Ideal S2x224x32x32 .bf16) (i : Fin 128) (n : Fin 7168) :
    val_main_v41 x b (ix2 i n) = rot (acts x) (rows b) i n := by
  pointwise [val_main_v41, second_apply]

/-- A shift right by four reads the same in a vector and on the host. -/
theorem shift_eq : ∀ w : BitVec 8, IntOp.shrsi ArithUnit.host (BitVec.setWidth 32 w) 4#32
    = IntOp.shrsi ArithUnit.vector (BitVec.setWidth 32 w) 4#32 := by decide +kernel

/-- The first result, read at an index. -/
theorem prod_apply (x0 : Vec Ideal S1x128x7168 .bf16) (x1 : Vec Ideal S2x224x32x32 .bf16) (x2 : Vec Ideal S3584x18432 .i8)
    (x3 x4 : Vec Ideal S56x18432 .bf16) (x5 : Vec Ideal S18432 .f32) (i : Fin 128) (n : Fin 18432) :
    val_main_v40 x0 x1 x2 x3 x4 x5 (ix2 i n)
      = prod (rot (acts x0) (rows x1)) (fun r n => x2 (ix2 r n)) (fun g n => x3 (ix2 g n)) (fun g n => x4 (ix2 g n))
          (fun n => x5 (ix1 n)) i n := by
  pointwise [val_main_v40, val_main_v39, val_main_v38, val_main_v37, val_main_v36, val_main_v35, val_main_v34, val_main_v33, val_main_v32, val_main_v31, val_main_v30, val_main_v29, val_main_v28, val_main_v27, val_main_v26, val_main_c_0, val_main_v25, val_main_v24, val_main_v23, val_main_v22, val_main_v21, val_main_c, val_main_v20, val_main_v19, val_main_v18, val_main_v17, val_main_v16, second_apply]
  unfold prod
  refine congrArg (fun t : EReal => t * x5 (ix1 n)) ?_
  rw [← sum_parity]
  refine congrArg₂ (fun p q : EReal => p + q) (Finset.sum_congr rfl fun r _ => ?_) (Finset.sum_congr rfl fun r _ => ?_)
  · refine congrArg (fun t : EReal => rot (acts x0) (rows x1) i ⟨2 * r.val, by omega⟩ * t) ?_
    have h1 : (⟨2 * r.val / 2, by omega⟩ : Fin 3584) = r := Fin.ext (by show 2 * r.val / 2 = r.val; omega)
    have h2 : (⟨2 * r.val / 128, by omega⟩ : Fin 56) = ⟨r.val / 64, by omega⟩ := Fin.ext (by show 2 * r.val / 128 = r.val / 64; omega)
    have h3 : 2 * r.val % 2 = 0 := by omega
    simp only [weight, nib, h1, h2, h3, if_true]
  · refine congrArg (fun t : EReal => rot (acts x0) (rows x1) i ⟨1 + 2 * r.val, by omega⟩ * t) ?_
    have h1 : (⟨(1 + 2 * r.val) / 2, by omega⟩ : Fin 3584) = r := Fin.ext (by show (1 + 2 * r.val) / 2 = r.val; omega)
    have h2 : (⟨(1 + 2 * r.val) / 128, by omega⟩ : Fin 56) = ⟨r.val / 64, by omega⟩ := Fin.ext (by show (1 + 2 * r.val) / 128 = r.val / 64; omega)
    have h3 : ¬ (1 + 2 * r.val) % 2 = 0 := by omega
    simp only [weight, nib, h1, h2, h3, if_false, shift_eq]

end Cert.ReferenceIdeal.Closed

end
-- ==== Proof.Algebraic.lean ====
/- The `algebraic` claim: on equal arguments the idealized kernel and the idealized reference leave equal results. -/
module

public import proofs.«01_k».proof.Defs
public import proofs.«01_k».proof.Proof.Ideal.Point
public import proofs.«01_k».proof.Proof.Reference
public import proofs.«01_k».proof.Proof.Gen.ReferenceIdeal.Run

@[expose] public section

noncomputable section

open Idealize.ShloMosaic Idealize.SL.Sem

namespace Cert.Proof

/-- The kernel's second result and the reference's are the same rotated activations. -/
theorem rotated_agree (m : (ℓ : Loc Cert.KernelIdeal.nD Cert.KernelIdeal.τ Cert.KernelIdeal.sig) → Buf (Elt Ideal) ℓ) (c : Dev Cert.KernelIdeal.nD) :
    Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Value.G7 m c := by
  funext (y : (⟨2, ![128, 7168]⟩ : Shape).Idx)
  rw [eq_ix2 y]
  exact (Cert.ReferenceIdeal.Closed.rot_apply _ _ (y 0) (y 1)).trans (Cert.KernelIdeal.Point.rotated_result m c (y 0) (y 1)).symm

/-- The kernel's first result and the reference's are the same product. -/
theorem product_agree (m : (ℓ : Loc Cert.KernelIdeal.nD Cert.KernelIdeal.τ Cert.KernelIdeal.sig) → Buf (Elt Ideal) ℓ) (c : Dev Cert.KernelIdeal.nD) :
    Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = Cert.KernelIdeal.Value.G6 m c := by
  funext (y : (⟨2, ![128, 18432]⟩ : Shape).Idx)
  rw [eq_ix2 y]
  exact (Cert.ReferenceIdeal.Closed.prod_apply _ _ _ _ _ _ (y 0) (y 1)).trans (Cert.KernelIdeal.Point.product_result m c (y 0) (y 1)).symm

/-- From memories that agree on the arguments both programs run to their ends with equal results, their arguments
    unchanged. -/
theorem algebraic : Cert.algebraic_KernelIdeal_ReferenceIdeal := by
  intro m ρ m' ρ' _ hagree
  refine ⟨fun c => Cert.KernelIdeal.Value.G6 m c, fun c => Cert.KernelIdeal.Value.G7 m c,
    (θ_run Cert.KernelIdeal.defs _ _).mono (fun r h c => h c) (Cert.KernelIdeal.Value.run (F := Ideal) m ρ),
    (θ_run Cert.ReferenceIdeal.defs _ _).mono (fun r h c => ?_) (Cert.ReferenceIdeal.Value.run (F := Ideal) m' ρ')⟩
  obtain ⟨h40, h41, hargs⟩ := h c
  obtain ⟨a0, a1, a2, a3, a4, a5⟩ := hagree c
  refine ⟨h40.trans ?_, h41.trans ?_, hargs⟩
  · refine (Cert.ReferenceIdeal.Read.val_main_v40_eq _ _ _ _ _ _).trans ?_
    rw [a0, a1, a2, a3, a4, a5]
    exact product_agree m c
  · refine (Cert.ReferenceIdeal.Read.val_main_v41_eq _ _).trans ?_
    rw [a0, a1]
    exact rotated_agree m c

end Cert.Proof

end
-- ==== Proof.lean ====
module

public import proofs.«01_k».proof.Defs
public import proofs.«01_k».proof.Proof.Claims
public import proofs.«01_k».proof.Proof.Algebraic

@[expose] public section

noncomputable section

namespace Cert.Proof

open Idealize.ShloMosaic Idealize.SL.Sem

/-- The claims, conjoined in the order of the certificate. -/
theorem claim : Cert.Claim :=
  ⟨Cert.Kernel.Gen.facts, Cert.KernelIdeal.Gen.facts, Cert.ReferenceIdeal.Gen.facts,
    frame_p, frame_pi, frame_ri, preserves, algebraic⟩

end Cert.Proof

end
